-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_on_and_ca_finite [hPre_masks_on_and_ca_finite : Cert.Pre_masks_on_and_ca_finite.Facts] (m : (ℓ : Loc Cert.KernelIdeal.nD Cert.KernelIdeal.τ Cert.KernelIdeal.sig) → Buf (Elt Ideal) ℓ) : Prop :=
  ∀ c : Dev Cert.KernelIdeal.nD,
    (Cert.Pre_masks_on_and_ca_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_masks_on_and_ca_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_on_and_ca_finite [hPre_masks_on_and_ca_finite : Cert.Pre_masks_on_and_ca_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_on_and_ca_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_masks_on_and_ca_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_masks_on_and_ca_finite [hKernelIdeal : Cert.KernelIdeal.Facts] [hPre_masks_on_and_ca_finite : Cert.Pre_masks_on_and_ca_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_on_and_ca_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_masks_on_and_ca_finite [hReferenceIdeal : Cert.ReferenceIdeal.Facts] [hPre_masks_on_and_ca_finite : Cert.Pre_masks_on_and_ca_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_on_and_ca_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mu1" .f32 0x40555555#32 ((10 / 3 : ℝ) : EReal)
  ∧ IdealRules.named_const.Statement Cert.KernelIdeal.κ "mu2" .f32 0x40955555#32 ((14 / 3 : ℝ) : EReal)
  ∧ IdealRules.named_const.Statement Cert.KernelIdeal.κ "mu4" .f32 0x40EAAAAB#32 ((22 / 3 : ℝ) : EReal)
  ∧ IdealRules.named_const.Statement Cert.KernelIdeal.κ "mu5" .f32 0x410AAAAB#32 ((26 / 3 : ℝ) : EReal)
  ∧ IdealRules.named_const.Statement Cert.KernelIdeal.κ "mu7" .f32 0x41355555#32 ((34 / 3 : ℝ) : EReal)
  ∧ IdealRules.named_const.Statement Cert.KernelIdeal.κ "mu8" .f32 0x414AAAAB#32 ((38 / 3 : ℝ) : EReal)
  ∧ IdealRules.named_const.Statement Cert.KernelIdeal.κ "mu10" .f32 0x41755555#32 ((46 / 3 : ℝ) : EReal)
  ∧ IdealRules.named_const.Statement Cert.KernelIdeal.κ "mu11" .f32 0x41855555#32 ((50 / 3 : ℝ) : EReal)
  ∧ IdealRules.named_const.Statement Cert.KernelIdeal.κ "mu13" .f32 0x419AAAAB#32 ((58 / 3 : ℝ) : EReal)
  ∧ IdealRules.named_const.Statement Cert.KernelIdeal.κ "mu14" .f32 0x41A55555#32 ((62 / 3 : ℝ) : EReal)

def algebraic_KernelIdeal_ReferenceIdeal_pre_masks_on_and_ca_finite [hKernelIdeal : Cert.KernelIdeal.Facts] [hReferenceIdeal : Cert.ReferenceIdeal.Facts] [hPre_masks_on_and_ca_finite : Cert.Pre_masks_on_and_ca_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_on_and_ca_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_masks_on_and_ca_finite : Cert.Pre_masks_on_and_ca_finite.Facts),
    quiescent_Kernel (hKernel := hKernel)
    ∧ quiescent_KernelIdeal (hKernelIdeal := hKernelIdeal)
    ∧ quiescent_KernelIdeal_pre_masks_on_and_ca_finite (hKernelIdeal := hKernelIdeal) (hPre_masks_on_and_ca_finite := hPre_masks_on_and_ca_finite)
    ∧ quiescent_ReferenceIdeal (hReferenceIdeal := hReferenceIdeal)
    ∧ quiescent_ReferenceIdeal_pre_masks_on_and_ca_finite (hReferenceIdeal := hReferenceIdeal) (hPre_masks_on_and_ca_finite := hPre_masks_on_and_ca_finite)
    ∧ preserves_Kernel_KernelIdeal
    ∧ algebraic_KernelIdeal_ReferenceIdeal_pre_masks_on_and_ca_finite (hKernelIdeal := hKernelIdeal) (hReferenceIdeal := hReferenceIdeal) (hPre_masks_on_and_ca_finite := hPre_masks_on_and_ca_finite)
-- ==== Pre_masks_on_and_ca_finite.lean ====
abbrev S1x384x37x3 : Shape := ⟨4, ![1, 384, 37, 3]⟩
abbrev S1x384x37 : Shape := ⟨3, ![1, 384, 37]⟩
abbrev S1x384 : Shape := ⟨2, ![1, 384]⟩
abbrev S425x128 : Shape := ⟨2, ![425, 128]⟩
abbrev S1x384x4 : Shape := ⟨3, ![1, 384, 4]⟩
abbrev S1x384x1x3 : Shape := ⟨4, ![1, 384, 1, 3]⟩
abbrev S1x384x3 : Shape := ⟨3, ![1, 384, 3]⟩
abbrev S_ : Shape := ⟨0, ![]⟩

class Facts : Prop where
  slices_S1x384x37_S1x384x4_0_0_0 : S1x384x37.Slices ![0, 0, 0] S1x384x4
  slices_S1x384x37x3_S1x384x1x3_0_0_1_0 : S1x384x37x3.Slices ![0, 0, 1, 0] S1x384x1x3
  shapeCasts_S1x384x1x3_S1x384x3 : S1x384x1x3.ShapeCasts S1x384x3
  bcast_S_S1x384x3 : S_.BroadcastsInDim S1x384x3 (![] : Fin 0 → Fin S1x384x3.rank)

variable [Facts]

def fn {F : FTy → Type} [FloatOps F] (main_arg0 : FVec F S1x384x37x3 .f32) (main_arg1 : IVec S1x384x37 1) (main_arg2 : IVec S1x384 1) (main_arg3 : IVec S1x384 32) (main_arg4 : IVec S1x384 32) (main_arg5 : FVec F S425x128 .f32) : IVec S1x384x4 1 × IVec S1x384x3 1 :=
  let main_v0 : IVec S1x384x4 1 := (extractStridedSlice S1x384x4 ![0, 0, 0] · slices_S1x384x37_S1x384x4_0_0_0) main_arg1
  let main_v1 : FVec F S1x384x1x3 .f32 := (extractStridedSlice S1x384x1x3 ![0, 0, 1, 0] · slices_S1x384x37x3_S1x384x1x3_0_0_1_0) main_arg0
  let main_v2 : FVec F S1x384x3 .f32 := shapeCast S1x384x3 main_v1 shapeCasts_S1x384x1x3_S1x384x3
  let main_v3 : FVec F S1x384x3 .f32 := Host.absf main_v2
  let main_cst : FVec F S_ .f32 := constant S_ .f32 0x7F800000#32
  let main_v4 : FVec F S1x384x3 .f32 := broadcastInDim S1x384x3 ![] bcast_S_S1x384x3 main_cst
  let main_v5 : IVec S1x384x3 1 := cmpf .olt main_v3 main_v4
  (main_v0, main_v5)
-- ==== Kernel.lean ====
abbrev S1x384x37x3 : Shape := ⟨4, ![1, 384, 37, 3]⟩
abbrev S1x384x37 : Shape := ⟨3, ![1, 384, 37]⟩
abbrev S1x384 : Shape := ⟨2, ![1, 384]⟩
abbrev S425x128 : Shape := ⟨2, ![425, 128]⟩
abbrev S32 : Shape := ⟨1, ![32]⟩
abbrev S544 : Shape := ⟨1, ![544]⟩
abbrev S384x37x3 : Shape := ⟨3, ![384, 37, 3]⟩
abbrev S384x1x3 : Shape := ⟨3, ![384, 1, 3]⟩
abbrev S384x3 : Shape := ⟨2, ![384, 3]⟩
abbrev S384x1 : Shape := ⟨2, ![384, 1]⟩
abbrev S384 : Shape := ⟨1, ![384]⟩
abbrev S3x384 : Shape := ⟨2, ![3, 384]⟩
abbrev S_ : Shape := ⟨0, ![]⟩
abbrev S384x4x3 : Shape := ⟨3, ![384, 4, 3]⟩
abbrev S384x5x3 : Shape := ⟨3, ![384, 5, 3]⟩
abbrev S32x1 : Shape := ⟨2, ![32, 1]⟩
abbrev S384x32x3 : Shape := ⟨3, ![384, 32, 3]⟩
abbrev S384x3x32 : Shape := ⟨3, ![384, 3, 32]⟩
abbrev S384x96x1 : Shape := ⟨3, ![384, 96, 1]⟩
abbrev S3x32x384 : Shape := ⟨3, ![3, 32, 384]⟩
abbrev S96x384 : Shape := ⟨2, ![96, 384]⟩
abbrev S1x128 : Shape := ⟨2, ![1, 128]⟩
abbrev S426x128 : Shape := ⟨2, ![426, 128]⟩
abbrev S544x1 : Shape := ⟨2, ![544, 1]⟩
abbrev S544x128 : Shape := ⟨2, ![544, 128]⟩
abbrev S384x384x128 : Shape := ⟨3, ![384, 384, 128]⟩
abbrev S384x48 : Shape := ⟨2, ![384, 48]⟩
abbrev S1x384x48 : Shape := ⟨3, ![1, 384, 48]⟩
abbrev S1x384x384x128 : Shape := ⟨4, ![1, 384, 384, 128]⟩
abbrev S24x96x1 : Shape := ⟨3, ![24, 96, 1]⟩
abbrev S24x384x128 : Shape := ⟨3, ![24, 384, 128]⟩
abbrev S544x9216 : Shape := ⟨2, ![544, 9216]⟩
abbrev S1x96x1 : Shape := ⟨3, ![1, 96, 1]⟩
abbrev S96x1 : Shape := ⟨2, ![96, 1]⟩
abbrev S32x384 : Shape := ⟨2, ![32, 384]⟩
abbrev S9216x128 : Shape := ⟨2, ![9216, 128]⟩
abbrev S384x384 : Shape := ⟨2, ![384, 384]⟩

abbrev nBuf : Space → Nat
  | .hbm => 99
  | .vmem => 10
  | .smem => 0
  | _ => 0

abbrev bufTy : (tb : Table) → Fin (tcTables nBuf tb) → BufTy
  | .hbm, ⟨0, _⟩ => ⟨S1x384x37x3, .f32⟩
  | .hbm, ⟨1, _⟩ => ⟨S1x384x37, .i1⟩
  | .hbm, ⟨2, _⟩ => ⟨S1x384, .i1⟩
  | .hbm, ⟨3, _⟩ => ⟨S1x384, .i32⟩
  | .hbm, ⟨4, _⟩ => ⟨S1x384, .i32⟩
  | .hbm, ⟨5, _⟩ => ⟨S425x128, .f32⟩
  | .hbm, ⟨6, _⟩ => ⟨S32, .i32⟩
  | .hbm, ⟨7, _⟩ => ⟨S32, .i1⟩
  | .hbm, ⟨8, _⟩ => ⟨S32, .i32⟩
  | .hbm, ⟨9, _⟩ => ⟨S32, .i1⟩
  | .hbm, ⟨10, _⟩ => ⟨S544, .i32⟩
  | .hbm, ⟨11, _⟩ => ⟨S544, .i1⟩
  | .hbm, ⟨12, _⟩ => ⟨S384x37x3, .f32⟩
  | .hbm, ⟨13, _⟩ => ⟨S384x1x3, .f32⟩
  | .hbm, ⟨14, _⟩ => ⟨S384x3, .f32⟩
  | .hbm, ⟨15, _⟩ => ⟨S384x1x3, .f32⟩
  | .hbm, ⟨16, _⟩ => ⟨S384x3, .f32⟩
  | .hbm, ⟨17, _⟩ => ⟨S384x3, .f32⟩
  | .hbm, ⟨18, _⟩ => ⟨S384x1x3, .f32⟩
  | .hbm, ⟨19, _⟩ => ⟨S384x3, .f32⟩
  | .hbm, ⟨20, _⟩ => ⟨S384x1x3, .f32⟩
  | .hbm, ⟨21, _⟩ => ⟨S384x3, .f32⟩
  | .hbm, ⟨22, _⟩ => ⟨S384x3, .f32⟩
  | .hbm, ⟨23, _⟩ => ⟨S384x1, .f32⟩
  | .hbm, ⟨24, _⟩ => ⟨S384, .f32⟩
  | .hbm, ⟨25, _⟩ => ⟨S384x1, .f32⟩
  | .hbm, ⟨26, _⟩ => ⟨S384, .f32⟩
  | .hbm, ⟨27, _⟩ => ⟨S384x1, .f32⟩
  | .hbm, ⟨28, _⟩ => ⟨S384, .f32⟩
  | .hbm, ⟨29, _⟩ => ⟨S384x1, .f32⟩
  | .hbm, ⟨30, _⟩ => ⟨S384, .f32⟩
  | .hbm, ⟨31, _⟩ => ⟨S384x1, .f32⟩
  | .hbm, ⟨32, _⟩ => ⟨S384, .f32⟩
  | .hbm, ⟨33, _⟩ => ⟨S384x1, .f32⟩
  | .hbm, ⟨34, _⟩ => ⟨S384, .f32⟩
  | .hbm, ⟨35, _⟩ => ⟨S384, .f32⟩
  | .hbm, ⟨36, _⟩ => ⟨S384, .f32⟩
  | .hbm, ⟨37, _⟩ => ⟨S384, .f32⟩
  | .hbm, ⟨38, _⟩ => ⟨S384, .f32⟩
  | .hbm, ⟨39, _⟩ => ⟨S384, .f32⟩
  | .hbm, ⟨40, _⟩ => ⟨S384, .f32⟩
  | .hbm, ⟨41, _⟩ => ⟨S384, .f32⟩
  | .hbm, ⟨42, _⟩ => ⟨S384, .f32⟩
  | .hbm, ⟨43, _⟩ => ⟨S384, .f32⟩
  | .hbm, ⟨44, _⟩ => ⟨S1x384, .f32⟩
  | .hbm, ⟨45, _⟩ => ⟨S1x384, .f32⟩
  | .hbm, ⟨46, _⟩ => ⟨S1x384, .f32⟩
  | .hbm, ⟨47, _⟩ => ⟨S3x384, .f32⟩
  | .hbm, ⟨48, _⟩ => ⟨S384x3, .f32⟩
  | .hbm, ⟨49, _⟩ => ⟨S_, .f32⟩
  | .hbm, ⟨50, _⟩ => ⟨S384x3, .f32⟩
  | .hbm, ⟨51, _⟩ => ⟨S384x3, .f32⟩
  | .hbm, ⟨52, _⟩ => ⟨S_, .f32⟩
  | .hbm, ⟨53, _⟩ => ⟨S384x3, .f32⟩
  | .hbm, ⟨54, _⟩ => ⟨S384x3, .f32⟩
  | .hbm, ⟨55, _⟩ => ⟨S384x3, .f32⟩
  | .hbm, ⟨56, _⟩ => ⟨S_, .f32⟩
  | .hbm, ⟨57, _⟩ => ⟨S384x3, .f32⟩
  | .hbm, ⟨58, _⟩ => ⟨S384x3, .f32⟩
  | .hbm, ⟨59, _⟩ => ⟨S384x3, .f32⟩
  | .hbm, ⟨60, _⟩ => ⟨S384x1x3, .f32⟩
  | .hbm, ⟨61, _⟩ => ⟨S384x3, .f32⟩
  | .hbm, ⟨62, _⟩ => ⟨S384x3, .f32⟩
  | .hbm, ⟨63, _⟩ => ⟨S384x4x3, .f32⟩
  | .hbm, ⟨64, _⟩ => ⟨S384x1x3, .f32⟩
  | .hbm, ⟨65, _⟩ => ⟨S384x5x3, .f32⟩
  | .hbm, ⟨66, _⟩ => ⟨S_, .i32⟩
  | .hbm, ⟨67, _⟩ => ⟨S32, .i32⟩
  | .hbm, ⟨68, _⟩ => ⟨S32, .i32⟩
  | .hbm, ⟨69, _⟩ => ⟨S32, .i32⟩
  | .hbm, ⟨70, _⟩ => ⟨S32x1, .i32⟩
  | .hbm, ⟨71, _⟩ => ⟨S384x32x3, .f32⟩
  | .hbm, ⟨72, _⟩ => ⟨S384x3x32, .f32⟩
  | .hbm, ⟨73, _⟩ => ⟨S384x96x1, .f32⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x1, .i32⟩
  | .hbm, ⟨79, _⟩ => ⟨S384x32x3, .f32⟩
  | .hbm, ⟨80, _⟩ => ⟨S3x32x384, .f32⟩
  | .hbm, ⟨81, _⟩ => ⟨S96x384, .f32⟩
  | .hbm, ⟨82, _⟩ => ⟨S_, .f32⟩
  | .hbm, ⟨83, _⟩ => ⟨S1x128, .f32⟩
  | .hbm, ⟨84, _⟩ => ⟨S426x128, .f32⟩
  | .hbm, ⟨85, _⟩ => ⟨S_, .i32⟩
  | .hbm, ⟨86, _⟩ => ⟨S544, .i32⟩
  | .hbm, ⟨87, _⟩ => ⟨S544, .i32⟩
  | .hbm, ⟨88, _⟩ => ⟨S544, .i32⟩
  | .hbm, ⟨89, _⟩ => ⟨S544x1, .i32⟩
  | .hbm, ⟨90, _⟩ => ⟨S544x128, .f32⟩
  | .hbm, ⟨91, _⟩ => ⟨S544x128, .bf16⟩
  | .hbm, ⟨92, _⟩ => ⟨S384x384x128, .f32⟩
  | .hbm, ⟨93, _⟩ => ⟨S384x1x3, .f32⟩
  | .hbm, ⟨94, _⟩ => ⟨S384x3, .f32⟩
  | .hbm, ⟨95, _⟩ => ⟨S3x384, .f32⟩
  | .hbm, ⟨96, _⟩ => ⟨S384x48, .i32⟩
  | .hbm, ⟨97, _⟩ => ⟨S1x384x48, .i32⟩
  | .hbm, ⟨98, _⟩ => ⟨S1x384x384x128, .f32⟩
  | .local _ .vmem, ⟨0, _⟩ => ⟨S24x96x1, .f32⟩
  | .local _ .vmem, ⟨1, _⟩ => ⟨S24x96x1, .f32⟩
  | .local _ .vmem, ⟨2, _⟩ => ⟨S96x384, .f32⟩
  | .local _ .vmem, ⟨3, _⟩ => ⟨S544x128, .bf16⟩
  | .local _ .vmem, ⟨4, _⟩ => ⟨S24x384x128, .f32⟩
  | .local _ .vmem, ⟨5, _⟩ => ⟨S24x384x128, .f32⟩
  | .local _ .vmem, ⟨6, _⟩ => ⟨S544x9216, .bf16⟩
  | .local _ .vmem, ⟨7, _⟩ => ⟨S384x3, .f32⟩
  | .local _ .vmem, ⟨8, _⟩ => ⟨S3x384, .f32⟩
  | .local _ .vmem, ⟨9, _⟩ => ⟨S384x48, .i32⟩
  | _, _ => ⟨S1x384x37x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_c_0 : Ref sig .tc := ⟨.hbm, 7, rfl⟩
abbrev main_call0_c_1 : Ref sig .tc := ⟨.hbm, 8, rfl⟩
abbrev main_call0_c_2 : Ref sig .tc := ⟨.hbm, 9, rfl⟩
abbrev main_call0_c_3 : Ref sig .tc := ⟨.hbm, 10, rfl⟩
abbrev main_call0_c_4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_v12 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_call0_call0_v22 : Ref sig .tc := ⟨.hbm, 45, rfl⟩
abbrev main_call0_call0_v23 : Ref sig .tc := ⟨.hbm, 46, rfl⟩
abbrev main_call0_call0_v24 : Ref sig .tc := ⟨.hbm, 47, rfl⟩
abbrev main_call0_v11 : Ref sig .tc := ⟨.hbm, 48, rfl⟩
abbrev main_call0_cst : Ref sig .tc := ⟨.hbm, 49, rfl⟩
abbrev main_call0_v12 : Ref sig .tc := ⟨.hbm, 50, rfl⟩
abbrev main_call0_v13 : Ref sig .tc := ⟨.hbm, 51, rfl⟩
abbrev main_call0_cst_5 : Ref sig .tc := ⟨.hbm, 52, rfl⟩
abbrev main_call0_v14 : Ref sig .tc := ⟨.hbm, 53, rfl⟩
abbrev main_call0_v15 : Ref sig .tc := ⟨.hbm, 54, rfl⟩
abbrev main_call0_v16 : Ref sig .tc := ⟨.hbm, 55, rfl⟩
abbrev main_call0_cst_6 : Ref sig .tc := ⟨.hbm, 56, rfl⟩
abbrev main_call0_v17 : Ref sig .tc := ⟨.hbm, 57, rfl⟩
abbrev main_call0_v18 : Ref sig .tc := ⟨.hbm, 58, rfl⟩
abbrev main_call0_v19 : Ref sig .tc := ⟨.hbm, 59, rfl⟩
abbrev main_call0_v20 : Ref sig .tc := ⟨.hbm, 60, rfl⟩
abbrev main_call0_v21 : Ref sig .tc := ⟨.hbm, 61, rfl⟩
abbrev main_call0_v22 : Ref sig .tc := ⟨.hbm, 62, rfl⟩
abbrev main_call0_v23 : Ref sig .tc := ⟨.hbm, 63, rfl⟩
abbrev main_call0_v24 : Ref sig .tc := ⟨.hbm, 64, rfl⟩
abbrev main_call0_v25 : Ref sig .tc := ⟨.hbm, 65, rfl⟩
abbrev main_call0_c_7 : Ref sig .tc := ⟨.hbm, 66, rfl⟩
abbrev main_call0_v26 : Ref sig .tc := ⟨.hbm, 67, rfl⟩
abbrev main_call0_v27 : Ref sig .tc := ⟨.hbm, 68, rfl⟩
abbrev main_call0_v28 : Ref sig .tc := ⟨.hbm, 69, rfl⟩
abbrev main_call0_v29 : Ref sig .tc := ⟨.hbm, 70, rfl⟩
abbrev main_call0_v30 : Ref sig .tc := ⟨.hbm, 71, rfl⟩
abbrev main_call0_v31 : Ref sig .tc := ⟨.hbm, 72, rfl⟩
abbrev main_call0_v32 : Ref sig .tc := ⟨.hbm, 73, rfl⟩
abbrev main_call0_c_8 : Ref sig .tc := ⟨.hbm, 74, rfl⟩
abbrev main_call0_v33 : Ref sig .tc := ⟨.hbm, 75, rfl⟩
abbrev main_call0_v34 : Ref sig .tc := ⟨.hbm, 76, rfl⟩
abbrev main_call0_v35 : Ref sig .tc := ⟨.hbm, 77, rfl⟩
abbrev main_call0_v36 : Ref sig .tc := ⟨.hbm, 78, rfl⟩
abbrev main_call0_v37 : Ref sig .tc := ⟨.hbm, 79, rfl⟩
abbrev main_call0_v38 : Ref sig .tc := ⟨.hbm, 80, rfl⟩
abbrev main_call0_v39 : Ref sig .tc := ⟨.hbm, 81, rfl⟩
abbrev main_call0_cst_9 : Ref sig .tc := ⟨.hbm, 82, rfl⟩
abbrev main_call0_v40 : Ref sig .tc := ⟨.hbm, 83, rfl⟩
abbrev main_call0_v41 : Ref sig .tc := ⟨.hbm, 84, rfl⟩
abbrev main_call0_c_10 : Ref sig .tc := ⟨.hbm, 85, rfl⟩
abbrev main_call0_v42 : Ref sig .tc := ⟨.hbm, 86, rfl⟩
abbrev main_call0_v43 : Ref sig .tc := ⟨.hbm, 87, rfl⟩
abbrev main_call0_v44 : Ref sig .tc := ⟨.hbm, 88, rfl⟩
abbrev main_call0_v45 : Ref sig .tc := ⟨.hbm, 89, rfl⟩
abbrev main_call0_v46 : Ref sig .tc := ⟨.hbm, 90, rfl⟩
abbrev main_call0_v47 : Ref sig .tc := ⟨.hbm, 91, rfl⟩
abbrev main_call0_v48 : Ref sig .tc := ⟨.hbm, 92, rfl⟩
abbrev main_call0_v49 : Ref sig .tc := ⟨.hbm, 93, rfl⟩
abbrev main_call0_v50 : Ref sig .tc := ⟨.hbm, 94, rfl⟩
abbrev main_call0_v51 : Ref sig .tc := ⟨.hbm, 95, rfl⟩
abbrev main_call0_v52 : Ref sig .tc := ⟨.hbm, 96, rfl⟩
abbrev main_v0_0 : Ref sig .tc := ⟨.hbm, 97, rfl⟩
abbrev main_v0_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S24x96x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S544x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

@[reducible] def k1_t1_loop : Scf.Loop 32 :=
  let c0_i32 : BitVec 32 := 0#32
  let c48_i32 : BitVec 32 := 48#32
  let v34 : BitVec 32 := Scalar.addi c0_i32 c48_i32
  let c1_i32 : BitVec 32 := 1#32
  ⟨c0_i32, v34, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S384x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x48 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "mu1" => some ((10 / 3 : ℝ) : EReal)
  | "mu10" => some ((46 / 3 : ℝ) : EReal)
  | "mu11" => some ((50 / 3 : ℝ) : EReal)
  | "mu13" => some ((58 / 3 : ℝ) : EReal)
  | "mu14" => some ((62 / 3 : ℝ) : EReal)
  | "mu2" => some ((14 / 3 : ℝ) : EReal)
  | "mu4" => some ((22 / 3 : ℝ) : EReal)
  | "mu5" => some ((26 / 3 : ℝ) : EReal)
  | "mu7" => some ((34 / 3 : ℝ) : EReal)
  | "mu8" => some ((38 / 3 : ℝ) : EReal)
  | _ => none
-- ==== ReferenceIdeal.lean ====
abbrev S1x384x37x3 : Shape := ⟨4, ![1, 384, 37, 3]⟩
abbrev S1x384x37 : Shape := ⟨3, ![1, 384, 37]⟩
abbrev S1x384 : Shape := ⟨2, ![1, 384]⟩
abbrev S425x128 : Shape := ⟨2, ![425, 128]⟩
abbrev S1x384x1x3 : Shape := ⟨4, ![1, 384, 1, 3]⟩
abbrev S1x384x3 : Shape := ⟨3, ![1, 384, 3]⟩
abbrev S1x384x1 : Shape := ⟨3, ![1, 384, 1]⟩
abbrev S_ : Shape := ⟨0, ![]⟩
abbrev S1x384x4x3 : Shape := ⟨4, ![1, 384, 4, 3]⟩
abbrev S1x384x5x3 : Shape := ⟨4, ![1, 384, 5, 3]⟩
abbrev S1x384x4 : Shape := ⟨3, ![1, 384, 4]⟩
abbrev S1x384x5 : Shape := ⟨3, ![1, 384, 5]⟩
abbrev S1x1x384 : Shape := ⟨3, ![1, 1, 384]⟩
abbrev S1x384x384 : Shape := ⟨3, ![1, 384, 384]⟩
abbrev S1x1x384x3 : Shape := ⟨4, ![1, 1, 384, 3]⟩
abbrev S1x384x384x3 : Shape := ⟨4, ![1, 384, 384, 3]⟩
abbrev S1x384x48 : Shape := ⟨3, ![1, 384, 48]⟩
abbrev S1x384x1x5x1x3 : Shape := ⟨6, ![1, 384, 1, 5, 1, 3]⟩
abbrev S1x1x384x1x5x3 : Shape := ⟨6, ![1, 1, 384, 1, 5, 3]⟩
abbrev S1x384x384x5x5x3 : Shape := ⟨6, ![1, 384, 384, 5, 5, 3]⟩
abbrev S1x384x384x5x5 : Shape := ⟨5, ![1, 384, 384, 5, 5]⟩
abbrev S1x384x1x5x1 : Shape := ⟨5, ![1, 384, 1, 5, 1]⟩
abbrev S1x1x384x1x5 : Shape := ⟨5, ![1, 1, 384, 1, 5]⟩
abbrev S1x384x384x25 : Shape := ⟨4, ![1, 384, 384, 25]⟩
abbrev S15 : Shape := ⟨1, ![15]⟩
abbrev S1 : Shape := ⟨1, ![1]⟩
abbrev S16 : Shape := ⟨1, ![16]⟩
abbrev S1x384x384x25x1 : Shape := ⟨5, ![1, 384, 384, 25, 1]⟩
abbrev S1x1x1x1x16 : Shape := ⟨5, ![1, 1, 1, 1, 16]⟩
abbrev S1x384x384x25x16 : Shape := ⟨5, ![1, 384, 384, 25, 16]⟩
abbrev S1x384x384x400 : Shape := ⟨4, ![1, 384, 384, 400]⟩
abbrev S1x384x384x425 : Shape := ⟨4, ![1, 384, 384, 425]⟩
abbrev S1x384x384x128 : Shape := ⟨4, ![1, 384, 384, 128]⟩

abbrev nBuf : Space → Nat
  | .hbm => 166
  | .vmem => 0
  | .smem => 0
  | _ => 0

abbrev hbmTy0_0 (i : Nat) : BufTy := match i % 128 with
  | 0 => ⟨S1x384x37x3, .f32⟩
  | 1 => ⟨S1x384x37, .i1⟩
  | 2 => ⟨S1x384, .i1⟩
  | 3 => ⟨S1x384, .i32⟩
  | 4 => ⟨S1x384, .i32⟩
  | 5 => ⟨S425x128, .f32⟩
  | 6 => ⟨S1x384x1x3, .f32⟩
  | 7 => ⟨S1x384x3, .f32⟩
  | 8 => ⟨S1x384x1x3, .f32⟩
  | 9 => ⟨S1x384x3, .f32⟩
  | 10 => ⟨S1x384x3, .f32⟩
  | 11 => ⟨S1x384x1x3, .f32⟩
  | 12 => ⟨S1x384x3, .f32⟩
  | 13 => ⟨S1x384x1x3, .f32⟩
  | 14 => ⟨S1x384x3, .f32⟩
  | 15 => ⟨S1x384x3, .f32⟩
  | 16 => ⟨S1x384x1, .f32⟩
  | 17 => ⟨S1x384, .f32⟩
  | 18 => ⟨S1x384x1, .f32⟩
  | 19 => ⟨S1x384, .f32⟩
  | 20 => ⟨S1x384, .f32⟩
  | 21 => ⟨S1x384x1, .f32⟩
  | 22 => ⟨S1x384, .f32⟩
  | 23 => ⟨S1x384x1, .f32⟩
  | 24 => ⟨S1x384, .f32⟩
  | 25 => ⟨S1x384, .f32⟩
  | 26 => ⟨S1x384, .f32⟩
  | 27 => ⟨S1x384x1, .f32⟩
  | 28 => ⟨S1x384, .f32⟩
  | 29 => ⟨S1x384x1, .f32⟩
  | 30 => ⟨S1x384, .f32⟩
  | 31 => ⟨S1x384, .f32⟩
  | 32 => ⟨S1x384x1, .f32⟩
  | 33 => ⟨S1x384, .f32⟩
  | 34 => ⟨S1x384x1, .f32⟩
  | 35 => ⟨S1x384, .f32⟩
  | 36 => ⟨S1x384, .f32⟩
  | 37 => ⟨S1x384, .f32⟩
  | 38 => ⟨S1x384x1, .f32⟩
  | 39 => ⟨S1x384, .f32⟩
  | 40 => ⟨S1x384x1, .f32⟩
  | 41 => ⟨S1x384, .f32⟩
  | 42 => ⟨S1x384, .f32⟩
  | 43 => ⟨S1x384x1, .f32⟩
  | 44 => ⟨S1x384, .f32⟩
  | 45 => ⟨S1x384x1, .f32⟩
  | 46 => ⟨S1x384, .f32⟩
  | 47 => ⟨S1x384, .f32⟩
  | 48 => ⟨S1x384, .f32⟩
  | 49 => ⟨S1x384x1, .f32⟩
  | 50 => ⟨S1x384x1, .f32⟩
  | 51 => ⟨S1x384x1, .f32⟩
  | 52 => ⟨S1x384x3, .f32⟩
  | 53 => ⟨S_, .f32⟩
  | 54 => ⟨S1x384x3, .f32⟩
  | 55 => ⟨S1x384x3, .f32⟩
  | 56 => ⟨S_, .f32⟩
  | 57 => ⟨S1x384x3, .f32⟩
  | 58 => ⟨S1x384x3, .f32⟩
  | 59 => ⟨S1x384x3, .f32⟩
  | 60 => ⟨S_, .f32⟩
  | 61 => ⟨S1x384x3, .f32⟩
  | 62 => ⟨S1x384x3, .f32⟩
  | 63 => ⟨S1x384x3, .f32⟩
  | 64 => ⟨S1x384x1x3, .f32⟩
  | 65 => ⟨S1x384x3, .f32⟩
  | 66 => ⟨S1x384x3, .f32⟩
  | 67 => ⟨S1x384x3, .i1⟩
  | 68 => ⟨S_, .i1⟩
  | 69 => ⟨S1x384, .i1⟩
  | 70 => ⟨S1x384x4x3, .f32⟩
  | 71 => ⟨S1x384x1x3, .f32⟩
  | 72 => ⟨S1x384x5x3, .f32⟩
  | 73 => ⟨S1x384x4, .i1⟩
  | 74 => ⟨S1x384x1, .i1⟩
  | 75 => ⟨S1x384x5, .i1⟩
  | 76 => ⟨S1x384x1x3, .f32⟩
  | 77 => ⟨S1x384x3, .f32⟩
  | 78 => ⟨S1x384x1, .i1⟩
  | 79 => ⟨S1x384, .i1⟩
  | 80 => ⟨S1x384x1, .i1⟩
  | 81 => ⟨S1x1x384, .i1⟩
  | 82 => ⟨S1x384x384, .i1⟩
  | 83 => ⟨S1x384x384, .i1⟩
  | 84 => ⟨S1x384x384, .i1⟩
  | 85 => ⟨S1x384x1x3, .f32⟩
  | 86 => ⟨S1x1x384x3, .f32⟩
  | 87 => ⟨S1x384x384x3, .f32⟩
  | 88 => ⟨S1x384x384x3, .f32⟩
  | 89 => ⟨S1x384x384x3, .f32⟩
  | 90 => ⟨S1x384x384x3, .f32⟩
  | 91 => ⟨S_, .f32⟩
  | 92 => ⟨S1x384x384, .f32⟩
  | 93 => ⟨S_, .f32⟩
  | 94 => ⟨S1x384x384, .f32⟩
  | 95 => ⟨S1x384x384, .f32⟩
  | 96 => ⟨S1x384x384, .f32⟩
  | 97 => ⟨S_, .f32⟩
  | 98 => ⟨S_, .f32⟩
  | 99 => ⟨S1x384x384, .f32⟩
  | 100 => ⟨S1x384x384, .f32⟩
  | 101 => ⟨S1x384x384, .f32⟩
  | 102 => ⟨S1x384x48, .f32⟩
  | 103 => ⟨S1x384x48, .i32⟩
  | 104 => ⟨S1x384x1x5x1x3, .f32⟩
  | 105 => ⟨S1x1x384x1x5x3, .f32⟩
  | 106 => ⟨S1x384x384x5x5x3, .f32⟩
  | 107 => ⟨S1x384x384x5x5x3, .f32⟩
  | 108 => ⟨S1x384x384x5x5x3, .f32⟩
  | 109 => ⟨S1x384x384x5x5x3, .f32⟩
  | 110 => ⟨S_, .f32⟩
  | 111 => ⟨S1x384x384x5x5, .f32⟩
  | 112 => ⟨S_, .f32⟩
  | 113 => ⟨S1x384x384x5x5, .f32⟩
  | 114 => ⟨S1x384x384x5x5, .f32⟩
  | 115 => ⟨S1x384x384x5x5, .f32⟩
  | 116 => ⟨S1x384x1x5x1, .i1⟩
  | 117 => ⟨S1x1x384x1x5, .i1⟩
  | 118 => ⟨S1x384x384x5x5, .i1⟩
  | 119 => ⟨S1x384x384x5x5, .i1⟩
  | 120 => ⟨S1x384x384x5x5, .i1⟩
  | 121 => ⟨S_, .f32⟩
  | 122 => ⟨S_, .f32⟩
  | 123 => ⟨S1x384x384x5x5, .f32⟩
  | 124 => ⟨S1x384x384x5x5, .f32⟩
  | 125 => ⟨S1x384x384x25, .f32⟩
  | 126 => ⟨S_, .f32⟩
  | 127 => ⟨S_, .f32⟩
  | _ => ⟨S1x384x37x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S15, .f32⟩
  | 6 => ⟨S_, .f32⟩
  | 7 => ⟨S15, .f32⟩
  | 8 => ⟨S15, .f32⟩
  | 9 => ⟨S1, .f32⟩
  | 10 => ⟨S_, .f32⟩
  | 11 => ⟨S15, .f32⟩
  | 12 => ⟨S15, .f32⟩
  | 13 => ⟨S15, .f32⟩
  | 14 => ⟨S15, .f32⟩
  | 15 => ⟨S1, .f32⟩
  | 16 => ⟨S15, .f32⟩
  | 17 => ⟨S15, .f32⟩
  | 18 => ⟨S15, .f32⟩
  | 19 => ⟨S1, .f32⟩
  | 20 => ⟨S16, .f32⟩
  | 21 => ⟨S1x384x384x25x1, .f32⟩
  | 22 => ⟨S1x1x1x1x16, .f32⟩
  | 23 => ⟨S1x384x384x25x16, .f32⟩
  | 24 => ⟨S1x384x384x25x16, .f32⟩
  | 25 => ⟨S1x384x384x25x16, .f32⟩
  | 26 => ⟨S1x384x384x25x16, .f32⟩
  | 27 => ⟨S1x384x384x25x16, .f32⟩
  | 28 => ⟨S1x384x384x25x16, .f32⟩
  | 29 => ⟨S1x384x384x400, .f32⟩
  | 30 => ⟨S_, .f32⟩
  | 31 => ⟨S1x384x384x25, .f32⟩
  | 32 => ⟨S1x384x384x25, .f32⟩
  | 33 => ⟨S_, .f32⟩
  | 34 => ⟨S1x384x384x25, .f32⟩
  | 35 => ⟨S1x384x384x25, .f32⟩
  | 36 => ⟨S1x384x384x425, .f32⟩
  | 37 => ⟨S1x384x384x128, .f32⟩
  | _ => ⟨S1x384x37x3, .f32⟩

abbrev hbmTy (i : Nat) : BufTy := match i / 128 with
  | 0 => hbmTy0_0 i
  | 1 => hbmTy0_1 i
  | _ => ⟨S1x384x37x3, .f32⟩

abbrev bufTy : (tb : Table) → Fin (tcTables nBuf tb) → BufTy
  | .hbm, ⟨i, _⟩ => hbmTy i
  | _, _ => ⟨S1x384x37x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_1 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_c : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_cst_3 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_4 : Ref sig .tc := ⟨.hbm, 97, rfl⟩
abbrev main_call0_v0 : Ref sig .tc := ⟨.hbm, 98, rfl⟩
abbrev main_call0_v1 : Ref sig .tc := ⟨.hbm, 99, rfl⟩
abbrev main_v85 : Ref sig .tc := ⟨.hbm, 100, rfl⟩
abbrev main_v86 : Ref sig .tc := ⟨.hbm, 101, rfl⟩
abbrev main_values : Ref sig .tc := ⟨.hbm, 102, rfl⟩
abbrev main_indices : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_5 : Ref sig .tc := ⟨.hbm, 110, rfl⟩
abbrev main_v93 : Ref sig .tc := ⟨.hbm, 111, rfl⟩
abbrev main_cst_6 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_7 : Ref sig .tc := ⟨.hbm, 121, rfl⟩
abbrev main_call1_v0 : Ref sig .tc := ⟨.hbm, 122, rfl⟩
abbrev main_call1_v1 : Ref sig .tc := ⟨.hbm, 123, rfl⟩
abbrev main_v102 : Ref sig .tc := ⟨.hbm, 124, rfl⟩
abbrev main_v103 : Ref sig .tc := ⟨.hbm, 125, rfl⟩
abbrev main_cst_8 : Ref sig .tc := ⟨.hbm, 126, rfl⟩
abbrev main_cst_9 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_cst : Ref sig .tc := ⟨.hbm, 131, rfl⟩
abbrev main_call2_v3 : Ref sig .tc := ⟨.hbm, 132, rfl⟩
abbrev main_call2_v4 : Ref sig .tc := ⟨.hbm, 133, rfl⟩
abbrev main_call2_cst_0 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_cst_1 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_call2_v13 : Ref sig .tc := ⟨.hbm, 144, rfl⟩
abbrev main_call2_v14 : Ref sig .tc := ⟨.hbm, 145, rfl⟩
abbrev main_call2_v15 : Ref sig .tc := ⟨.hbm, 146, rfl⟩
abbrev main_call2_v16 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_10 : Ref sig .tc := ⟨.hbm, 158, rfl⟩
abbrev main_v114 : Ref sig .tc := ⟨.hbm, 159, rfl⟩
abbrev main_v115 : Ref sig .tc := ⟨.hbm, 160, rfl⟩
abbrev main_cst_11 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩

abbrev nD : Nat := 1
abbrev τ : Topo := Topo.v7x

variable {F : FTy → Type} [FloatOps F]
-- ==== Proof.Frames.lean ====
/- What the generated modules already give: the three frames, and the words behind the named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, leaves its arguments unchanged and every semaphore counter at zero. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference over the extended reals; it declares no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each named constant's word is the one the kernel's text spells. -/
theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl⟩

end Cert.Proof

end
-- ==== Proof.HostValues.lean ====
/- What the host operations before the first kernel compute, as functions of the positions and of the weights: five
   atoms a residue, the query and key coordinates of every pair, the weights in the kernel's row order. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Idealize.SL Idealize.SL.Sem

variable {F : FTy → Type} [FloatOps F] [Named F]

/-- The positions without their leading unit axis. -/
def hpos (x : Vec F S1x384x37x3 .f32) : Vec F S384x37x3 .f32 := shapeCast S384x37x3 x shapeCasts_S1x384x37x3_S384x37x3

/-- CA, the second atom. -/
def hca (x : Vec F S1x384x37x3 .f32) : FVec F S384x3 .f32 :=
  shapeCast S384x3 (extractStridedSlice S384x1x3 ![0, 1, 0] (hpos x) slices_S384x37x3_S384x1x3_0_1_0) shapeCasts_S384x1x3_S384x3

/-- CA less the first atom. -/
def hb (x : Vec F S1x384x37x3 .f32) : FVec F S384x3 .f32 :=
  subf (hca x) (shapeCast S384x3 (extractStridedSlice S384x1x3 ![0, 0, 0] (hpos x) slices_S384x37x3_S384x1x3_0_0_0) shapeCasts_S384x1x3_S384x3)

/-- The third atom less CA. -/
def hc (x : Vec F S1x384x37x3 .f32) : FVec F S384x3 .f32 :=
  subf (shapeCast S384x3 (extractStridedSlice S384x1x3 ![0, 2, 0] (hpos x) slices_S384x37x3_S384x1x3_0_2_0) shapeCasts_S384x1x3_S384x3) (hca x)

/-- One coordinate of every residue. -/
def hx (u : FVec F S384x3 .f32) : FVec F S384 .f32 :=
  shapeCast S384 (extractStridedSlice S384x1 ![0, 0] u slices_S384x3_S384x1_0_0) shapeCasts_S384x1_S384

/-- Likewise the next coordinate. -/
def hy (u : FVec F S384x3 .f32) : FVec F S384 .f32 :=
  shapeCast S384 (extractStridedSlice S384x1 ![0, 1] u slices_S384x3_S384x1_0_1) shapeCasts_S384x1_S384

/-- Likewise the last coordinate. -/
def hz (u : FVec F S384x3 .f32) : FVec F S384 .f32 :=
  shapeCast S384 (extractStridedSlice S384x1 ![0, 2] u slices_S384x3_S384x1_0_2) shapeCasts_S384x1_S384

/-- The cross product, residue by residue. -/
def hcross (u v : FVec F S384x3 .f32) : FVec F S384x3 .f32 :=
  transpose S384x3 [1, 0] (concatenate S3x384 0
    [⟨S1x384, broadcastInDim S1x384 ![1] bcast_S384_S1x384_1 (subf (mulf (hy u) (hz v)) (mulf (hz u) (hy v)))⟩,
     ⟨S1x384, broadcastInDim S1x384 ![1] bcast_S384_S1x384_1 (subf (mulf (hz u) (hx v)) (mulf (hx u) (hz v)))⟩,
     ⟨S1x384, broadcastInDim S1x384 ![1] bcast_S384_S1x384_1 (subf (mulf (hx u) (hy v)) (mulf (hy u) (hx v)))⟩]
    concatenates_S1x384_S1x384_S1x384_S3x384_d0) transposes_S3x384_S384x3_1_0

/-- CB, built from the first three atoms. -/
def hcb (x : Vec F S1x384x37x3 .f32) : FVec F S384x3 .f32 :=
  addf (subf (addf (mulf (broadcastInDim S384x3 ![] bcast_S_S384x3 (constant S_ .f32 0xBF152E13#32)) (hcross (hb x) (hc x)))
      (mulf (broadcastInDim S384x3 ![] bcast_S_S384x3 (constant S_ .f32 0x3F116A4D#32)) (hb x)))
      (mulf (broadcastInDim S384x3 ![] bcast_S_S384x3 (constant S_ .f32 0x3F0A69A8#32)) (hc x)))
    (hca x)

/-- Five atoms a residue: the first four and CB. -/
def hin (x : Vec F S1x384x37x3 .f32) : FVec F S384x5x3 .f32 :=
  concatenate S384x5x3 1 [⟨S384x4x3, extractStridedSlice S384x4x3 ![0, 0, 0] (hpos x) slices_S384x37x3_S384x4x3_0_0_0⟩,
    ⟨S384x1x3, broadcastInDim S384x1x3 ![0, 2] bcast_S384x3_S384x1x3_0_2 (hcb x)⟩] concatenates_S384x4x3_S384x1x3_S384x5x3_d1

/-- A table of 32 positions as the gather takes it. -/
def hidx (l : IVec S32 32) : IVec S32x1 32 :=
  broadcastInDim S32x1 ![0] bcast_S32_S32x1_0
    (select (constantI S32 1 0#1) (addi l (broadcastInDim S32 ![] bcast_S_S32 (constantI S_ 32 5#32))) l)

/-- The query coordinates: for each residue, the first atom of each pair, coordinate by coordinate. -/
def hq (x : Vec F S1x384x37x3 .f32) : Vec F S384x96x1 .f32 :=
  shapeCast S384x96x1 (transpose S384x3x32 [0, 2, 1] (Host.gather gather_S384x5x3_S32x1_S384x32x3_02_1_n_n_1_1_38413 (hin x)
    (hidx fun i => lit0 (S32.rowMajor i))) transposes_S384x32x3_S384x3x32_0_2_1) shapeCasts_S384x3x32_S384x96x1

/-- The key coordinates: the second atom of each pair, coordinate by coordinate, residue last. -/
def hk (x : Vec F S1x384x37x3 .f32) : Vec F S96x384 .f32 :=
  shapeCast S96x384 (transpose S3x32x384 [2, 1, 0] (Host.gather gather_S384x5x3_S32x1_S384x32x3_02_1_n_n_1_1_38413 (hin x)
    (hidx fun i => lit1 (S32.rowMajor i))) transposes_S384x32x3_S3x32x384_2_1_0) shapeCasts_S3x32x384_S96x384

/-- The weights in the kernel's row order, zero rows where no pair stands. -/
def hw (w : Vec F S425x128 .f32) : Vec F S544x128 .bf16 :=
  truncf .bf16 (Host.gather gather_S426x128_S544x1_S544x128_1_0_n_n_0_1_1128
    (concatenate S426x128 0 [⟨S425x128, w⟩, ⟨S1x128, broadcastInDim S1x128 ![] bcast_S_S1x128 (constant S_ .f32 0x00000000#32)⟩]
      concatenates_S425x128_S1x128_S426x128_d0)
    (broadcastInDim S544x1 ![0] bcast_S544_S544x1_0
      (select (constantI S544 1 0#1) (addi (fun i => lit2 (S544.rowMajor i)) (broadcastInDim S544 ![] bcast_S_S544 (constantI S_ 32 426#32)))
        (fun i => lit2 (S544.rowMajor i))))) bitsLt_bf16_f32

variable (V : Valuation τ sig (Elt F))

/-- The query coordinates' buffer at the first kernel's entry. -/
theorem after_v32 : StableHlo.after hostOps0 V (Proc.devRef .tc main_call0_v32) = hq (V (Proc.devRef .tc main_arg0)) := by
  sl_kernel_rfl

/-- The key coordinates' buffer there. -/
theorem after_v39 : StableHlo.after hostOps0 V (Proc.devRef .tc main_call0_v39) = hk (V (Proc.devRef .tc main_arg0)) := by
  sl_kernel_rfl

/-- The weights' buffer there. -/
theorem after_v47 : StableHlo.after hostOps0 V (Proc.devRef .tc main_call0_v47) = hw (V (Proc.devRef .tc main_arg5)) := by
  sl_kernel_rfl

/-- The positions' buffer there. -/
theorem after_v0 : StableHlo.after hostOps0 V (Proc.devRef .tc main_call0_v0) = hpos (V (Proc.devRef .tc main_arg0)) := by
  sl_kernel_rfl

end Cert.KernelIdeal.Gen

end
-- ==== Proof.KernelRun.lean ====
/- The kernel's whole run over any values: every unscoped buffer ends at the last boundary's contents. -/
module

public import proofs.«01_k».proof.Proof.HostValues

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and leaves each unscoped buffer at what the boundaries fold to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The last host operations give the first result the neighbours region's array. -/
theorem after_v52 (V : Valuation τ sig (Elt F)) : StableHlo.after hostOps2 V (Proc.devRef .tc main_v0_0) =
    (broadcastInDim S1x384x48 ![1, 2] bcast_S384x48_S1x384x48_1_2 (V (Proc.devRef .tc main_call0_v52) : Vec F S384x48 .i32) : Vec F S1x384x48 .i32) := by
  sl_kernel_rfl

/-- They give the second result the features region's array. -/
theorem after_v48 (V : Valuation τ sig (Elt F)) : StableHlo.after hostOps2 V (Proc.devRef .tc main_v0_1) =
    (broadcastInDim S1x384x384x128 ![1, 2, 3] bcast_S384x384x128_S1x384x384x128_1_2_3 (V (Proc.devRef .tc main_call0_v48) : Vec F S384x384x128 .f32) : Vec F S1x384x384x128 .f32) := by
  sl_kernel_rfl

/-- The host operations between the regions take CA out of the positions. -/
theorem after_v50 (V : Valuation τ sig (Elt F)) : StableHlo.after hostOps1 V (Proc.devRef .tc main_call0_v50) =
    (shapeCast S384x3 (extractStridedSlice S384x1x3 ![0, 1, 0] (V (Proc.devRef .tc main_call0_v0) : Vec F S384x37x3 .f32) slices_S384x37x3_S384x1x3_0_1_0) shapeCasts_S384x1x3_S384x3 : Vec F S384x3 .f32) := by
  sl_kernel_rfl

/-- They also take CA transposed. -/
theorem after_v51 (V : Valuation τ sig (Elt F)) : StableHlo.after hostOps1 V (Proc.devRef .tc main_call0_v51) =
    (transpose S3x384 [1, 0] (shapeCast S384x3 (extractStridedSlice S384x1x3 ![0, 1, 0] (V (Proc.devRef .tc main_call0_v0) : Vec F S384x37x3 .f32) slices_S384x37x3_S384x1x3_0_1_0) shapeCasts_S384x1x3_S384x3) transposes_S384x3_S3x384_1_0 : Vec F S3x384 .f32) := by
  sl_kernel_rfl

/-- What the neighbours region reads: the second atoms' positions, -/
theorem w3_v50 (c : Dev nD) : W3 m ρ c (Proc.devRef .tc main_call0_v50) = hca (m ((c : Thread nD τ).loc main_arg0)) := by
  have e : W2 m ρ c (Proc.devRef .tc main_call0_v0) = hpos (m ((c : Thread nD τ).loc main_arg0)) :=
    (W2_of m ρ c main_call0_v0 (by decide)).trans (after_v0 _)
  refine (after_v50 _).trans ?_
  rw [e]; rfl

/-- and the same transposed. -/
theorem w3_v51 (c : Dev nD) : W3 m ρ c (Proc.devRef .tc main_call0_v51) =
    (transpose S3x384 [1, 0] (hca (m ((c : Thread nD τ).loc main_arg0))) transposes_S384x3_S3x384_1_0 : Vec F S3x384 .f32) := by
  have e : W2 m ρ c (Proc.devRef .tc main_call0_v0) = hpos (m ((c : Thread nD τ).loc main_arg0)) :=
    (W2_of m ρ c main_call0_v0 (by decide)).trans (after_v0 _)
  refine (after_v51 _).trans ?_
  rw [e]; rfl

/-- The first result at the end: the neighbours region's array. -/
theorem w5_v0_0 (c : Dev nD) : W5 m ρ c (Proc.devRef .tc main_v0_0) =
    (broadcastInDim S1x384x48 ![1, 2] bcast_S384x48_S1x384x48_1_2 ((dat1 (V3 m ρ) c).arrAt 2 cfg1.N : Vec F S384x48 .i32) : Vec F S1x384x48 .i32) :=
  (after_v52 _).trans (congrArg (broadcastInDim S1x384x48 ![1, 2] bcast_S384x48_S1x384x48_1_2) (W4_arr m ρ c 2))

/-- The second result at the end: the features region's array. -/
theorem w5_v0_1 (c : Dev nD) : W5 m ρ c (Proc.devRef .tc main_v0_1) =
    (broadcastInDim S1x384x384x128 ![1, 2, 3] bcast_S384x384x128_S1x384x384x128_1_2_3 ((dat0 (V1 m ρ) c).arrAt 3 cfg0.N : Vec F S384x384x128 .f32) : Vec F S1x384x384x128 .f32) :=
  (after_v48 _).trans (congrArg (broadcastInDim S1x384x384x128 ![1, 2, 3] bcast_S384x384x128_S1x384x384x128_1_2_3)
    ((W4_of m ρ c main_call0_v48 (by decide)).trans ((W3_of m ρ c main_call0_v48 (by decide)).trans (W2_arr m ρ c 3))))

end Cert.KernelIdeal.Gen

end
-- ==== Proof.Tiles.lean ====
/- The pieces the features kernel stores into its scratch, in the order it stores them, as one formula in the query
   row `j`: sixteen tiles of radial bumps of the distances and one tile of `1/(1+d)`. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Idealize.SL Idealize.SL.Sem

variable {F : FTy → Type} [FloatOps F] [Named F]

/-- The rectangle of the scratch that holds the tile `r` of the query row `j`. -/
def sl (j : Fin 24) (r : Fin 17) : Rect S544x9216 :=
  Rect.unit ![32 * r.val, 384 * j.val] S32x384.size (by
    have := j.isLt; have := r.isLt
    intro a; match a with
    | ⟨0, _⟩ => show 32 * r.val + 32 ≤ 544; omega
    | ⟨1, _⟩ => show 384 * j.val + 384 ≤ 9216; omega)

/-- The query's coordinates of row `j`: 32 pairs, three coordinates one above another. -/
def qv (c : Dev nD) (arg1 : Memref sig .tc .vmem S24x96x1 .f32) (harg1 : arg1.IsWhole) (x0 : Vec F S24x96x1 .f32) (j : Fin 24) : FVec F S96x1 .f32 :=
  shapeCast S96x1 (View.readAt (Elt F) arg1.view (Rect.unit (s := S24x96x1) ![j.val, 0, 0] S1x96x1.size (by
    have := j.isLt
    intro a; match a with
    | ⟨0, _⟩ => show j.val + 1 ≤ 24; omega
    | ⟨1, _⟩ => show 0 + 96 ≤ 96; omega
    | ⟨2, _⟩ => show 0 + 1 ≤ 1; omega)).toLoadRect (harg1.unread x0) : Vec F S1x96x1 .f32) shapeCasts_S1x96x1_S96x1

/-- One coordinate's difference, pair by key. -/
def del0 (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) (j : Fin 24) : FVec F S32x384 .f32 :=
  subf (broadcastTo S32x384 (extractStridedSlice S32x1 ![0, 0] (qv c arg1 harg1 x0 j) slices_S96x1_o0_0_S32x1) broadcasts_S32x1_S32x384)
    (shapeCast S32x384 (View.readAt (Elt F) arg2.view (Rect.unit (s := S96x384) ![0, 0] S32x384.size inb_S96x384_S32x384_0_0).toLoadRect (harg2.unread x1) : Vec F S32x384 .f32) shapeCasts_S32x384_S32x384)

/-- Likewise of the next coordinate. -/
def del1 (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) (j : Fin 24) : FVec F S32x384 .f32 :=
  subf (broadcastTo S32x384 (extractStridedSlice S32x1 ![32, 0] (qv c arg1 harg1 x0 j) slices_S96x1_o32_0_S32x1) broadcasts_S32x1_S32x384)
    (shapeCast S32x384 (View.readAt (Elt F) arg2.view (Rect.unit (s := S96x384) ![32, 0] S32x384.size inb_S96x384_S32x384_32_0).toLoadRect (harg2.unread x1) : Vec F S32x384 .f32) shapeCasts_S32x384_S32x384)

/-- Likewise of the next coordinate. -/
def del2 (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) (j : Fin 24) : FVec F S32x384 .f32 :=
  subf (broadcastTo S32x384 (extractStridedSlice S32x1 ![64, 0] (qv c arg1 harg1 x0 j) slices_S96x1_o64_0_S32x1) broadcasts_S32x1_S32x384)
    (shapeCast S32x384 (View.readAt (Elt F) arg2.view (Rect.unit (s := S96x384) ![64, 0] S32x384.size inb_S96x384_S32x384_64_0).toLoadRect (harg2.unread x1) : Vec F S32x384 .f32) shapeCasts_S32x384_S32x384)

/-- The distances of row `j`, pair by key. -/
def dist (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) (j : Fin 24) : FVec F S32x384 .f32 :=
  sqrt (addf (addf (addf (mulf (del0 c arg1 harg1 arg2 harg2 x0 x1 j) (del0 c arg1 harg1 arg2 harg2 x0 x1 j)) (mulf (del1 c arg1 harg1 arg2 harg2 x0 x1 j) (del1 c arg1 harg1 arg2 harg2 x0 x1 j)))
    (mulf (del2 c arg1 harg1 arg2 harg2 x0 x1 j) (del2 c arg1 harg1 arg2 harg2 x0 x1 j))) (broadcast S32x384 (Scalar.ofBits .f32 0x358637BD#32)))

/-- The radial bump of the distances about one centre. -/
def bump (mu : F .f32) (d : FVec F S32x384 .f32) : FVec F S32x384 .bf16 :=
  shapeCast S32x384 (truncf .bf16 (exp (subf (broadcast S32x384 (Scalar.ofBits .f32 0x00000000#32))
    (mulf (subf d (broadcast S32x384 mu)) (subf d (broadcast S32x384 mu))))) bitsLt_bf16_f32) shapeCasts_S32x384_S32x384

/-- One over one more than the distances. -/
def inv (d : FVec F S32x384 .f32) : FVec F S32x384 .bf16 :=
  shapeCast S32x384 (truncf .bf16 (divf (broadcast S32x384 (Scalar.ofBits .f32 0x3F800000#32))
    (addf (broadcast S32x384 (Scalar.ofBits .f32 0x3F800000#32)) d)) bitsLt_bf16_f32) shapeCasts_S32x384_S32x384

/-- The seventeen tiles of row `j`, the last stored first. -/
def row (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) (j : Fin 24) : List (View.Piece (Elt F) S544x9216 .bf16) :=
  [⟨sl j 16, inv (dist c arg1 harg1 arg2 harg2 x0 x1 j)⟩, ⟨sl j 15, bump (Scalar.ofBits .f32 0x41B00000#32 : F .f32) (dist c arg1 harg1 arg2 harg2 x0 x1 j)⟩, ⟨sl j 14, bump (Named.named κ "mu14" 0x41A55555#32 : F .f32) (dist c arg1 harg1 arg2 harg2 x0 x1 j)⟩, ⟨sl j 13, bump (Named.named κ "mu13" 0x419AAAAB#32 : F .f32) (dist c arg1 harg1 arg2 harg2 x0 x1 j)⟩, ⟨sl j 12, bump (Scalar.ofBits .f32 0x41900000#32 : F .f32) (dist c arg1 harg1 arg2 harg2 x0 x1 j)⟩, ⟨sl j 11, bump (Named.named κ "mu11" 0x41855555#32 : F .f32) (dist c arg1 harg1 arg2 harg2 x0 x1 j)⟩, ⟨sl j 10, bump (Named.named κ "mu10" 0x41755555#32 : F .f32) (dist c arg1 harg1 arg2 harg2 x0 x1 j)⟩, ⟨sl j 9, bump (Scalar.ofBits .f32 0x41600000#32 : F .f32) (dist c arg1 harg1 arg2 harg2 x0 x1 j)⟩, ⟨sl j 8, bump (Named.named κ "mu8" 0x414AAAAB#32 : F .f32) (dist c arg1 harg1 arg2 harg2 x0 x1 j)⟩, ⟨sl j 7, bump (Named.named κ "mu7" 0x41355555#32 : F .f32) (dist c arg1 harg1 arg2 harg2 x0 x1 j)⟩, ⟨sl j 6, bump (Scalar.ofBits .f32 0x41200000#32 : F .f32) (dist c arg1 harg1 arg2 harg2 x0 x1 j)⟩, ⟨sl j 5, bump (Named.named κ "mu5" 0x410AAAAB#32 : F .f32) (dist c arg1 harg1 arg2 harg2 x0 x1 j)⟩, ⟨sl j 4, bump (Named.named κ "mu4" 0x40EAAAAB#32 : F .f32) (dist c arg1 harg1 arg2 harg2 x0 x1 j)⟩, ⟨sl j 3, bump (Scalar.ofBits .f32 0x40C00000#32 : F .f32) (dist c arg1 harg1 arg2 harg2 x0 x1 j)⟩, ⟨sl j 2, bump (Named.named κ "mu2" 0x40955555#32 : F .f32) (dist c arg1 harg1 arg2 harg2 x0 x1 j)⟩, ⟨sl j 1, bump (Named.named κ "mu1" 0x40555555#32 : F .f32) (dist c arg1 harg1 arg2 harg2 x0 x1 j)⟩, ⟨sl j 0, bump (Scalar.ofBits .f32 0x40000000#32 : F .f32) (dist c arg1 harg1 arg2 harg2 x0 x1 j)⟩]

/-- The scratch's pieces are the rows' tiles, the last row first. -/
theorem pieces_eq (c : Dev nD) (arg1 : Memref sig .tc .vmem S24x96x1 .f32) (harg1 : arg1.IsWhole) (arg2 : Memref sig .tc .vmem S96x384 .f32) (harg2 : arg2.IsWhole)
    (x0 : Vec F S24x96x1 .f32) (x1 : Vec F S96x384 .f32) :
    kernelRun0_A.sl.HS0_408 c arg1 harg1 arg2 harg2 x0 x1 = row c arg1 harg1 arg2 harg2 x0 x1 23 ++ (row c arg1 harg1 arg2 harg2 x0 x1 22 ++ (row c arg1 harg1 arg2 harg2 x0 x1 21 ++ (row c arg1 harg1 arg2 harg2 x0 x1 20 ++ (row c arg1 harg1 arg2 harg2 x0 x1 19 ++ (row c arg1 harg1 arg2 harg2 x0 x1 18 ++ (row c arg1 harg1 arg2 harg2 x0 x1 17 ++ (row c arg1 harg1 arg2 harg2 x0 x1 16 ++ (row c arg1 harg1 arg2 harg2 x0 x1 15 ++ (row c arg1 harg1 arg2 harg2 x0 x1 14 ++ (row c arg1 harg1 arg2 harg2 x0 x1 13 ++ (row c arg1 harg1 arg2 harg2 x0 x1 12 ++ (row c arg1 harg1 arg2 harg2 x0 x1 11 ++ (row c arg1 harg1 arg2 harg2 x0 x1 10 ++ (row c arg1 harg1 arg2 harg2 x0 x1 9 ++ (row c arg1 harg1 arg2 harg2 x0 x1 8 ++ (row c arg1 harg1 arg2 harg2 x0 x1 7 ++ (row c arg1 harg1 arg2 harg2 x0 x1 6 ++ (row c arg1 harg1 arg2 harg2 x0 x1 5 ++ (row c arg1 harg1 arg2 harg2 x0 x1 4 ++ (row c arg1 harg1 arg2 harg2 x0 x1 3 ++ (row c arg1 harg1 arg2 harg2 x0 x1 2 ++ (row c arg1 harg1 arg2 harg2 x0 x1 1 ++ (row c arg1 harg1 arg2 harg2 x0 x1 0))))))))))))))))))))))) := by
  sl_kernel_rfl

end Cert.KernelIdeal.Gen

end
-- ==== Proof.Consts.lean ====
/- The numbers behind the constants that the two programs spell as words, over the extended reals. -/
module

public import Idealize.ShloMosaic.PureOps
public import proofs.«01_k».proof.Proof.Gen.KernelIdeal

@[expose] public section

noncomputable section

namespace Cert.Consts

open Idealize.ShloMosaic

/-- The centre of the radial bump `r`: 2 + 4r/3. -/
def mu (r : ℕ) : EReal := (((6 + 4 * r) / 3 : ℝ) : EReal)

/-- The word for zero is zero. -/
theorem zero_eq : FloatOps.ofBits (F := Ideal) .f32 0x00000000#32 = 0 := by
  show Ideal.ofBits .f32 _ = _
  simp [Ideal.ofBits, Ideal.ieee]

/-- The word for one is one. -/
theorem one_eq : FloatOps.ofBits (F := Ideal) .f32 0x3F800000#32 = 1 := by
  show Ideal.ofBits .f32 _ = _
  simp [Ideal.ofBits, Ideal.ieee, -EReal.coe_mul]; norm_num

/-- The word for 2 is centre 0. -/
theorem mu0_eq : FloatOps.ofBits (F := Ideal) .f32 0x40000000#32 = mu 0 := by
  show Ideal.ofBits .f32 _ = _
  simp [Ideal.ofBits, Ideal.ieee, mu, -EReal.coe_mul]; norm_num

/-- The word for 6 is centre 3. -/
theorem mu3_eq : FloatOps.ofBits (F := Ideal) .f32 0x40C00000#32 = mu 3 := by
  show Ideal.ofBits .f32 _ = _
  simp [Ideal.ofBits, Ideal.ieee, mu, -EReal.coe_mul]; norm_num

/-- The word for 10 is centre 6. -/
theorem mu6_eq : FloatOps.ofBits (F := Ideal) .f32 0x41200000#32 = mu 6 := by
  show Ideal.ofBits .f32 _ = _
  simp [Ideal.ofBits, Ideal.ieee, mu, -EReal.coe_mul]; norm_num

/-- The word for 14 is centre 9. -/
theorem mu9_eq : FloatOps.ofBits (F := Ideal) .f32 0x41600000#32 = mu 9 := by
  show Ideal.ofBits .f32 _ = _
  simp [Ideal.ofBits, Ideal.ieee, mu, -EReal.coe_mul]; norm_num

/-- The word for 18 is centre 12. -/
theorem mu12_eq : FloatOps.ofBits (F := Ideal) .f32 0x41900000#32 = mu 12 := by
  show Ideal.ofBits .f32 _ = _
  simp [Ideal.ofBits, Ideal.ieee, mu, -EReal.coe_mul]; norm_num

/-- The word for 22 is centre 15. -/
theorem mu15_eq : FloatOps.ofBits (F := Ideal) .f32 0x41B00000#32 = mu 15 := by
  show Ideal.ofBits .f32 _ = _
  simp [Ideal.ofBits, Ideal.ieee, mu, -EReal.coe_mul]; norm_num

/-- The word for 2, as a number. -/
theorem two_eq : FloatOps.ofBits (F := Ideal) .f32 0x40000000#32 = ((2 : ℝ) : EReal) := by
  show Ideal.ofBits .f32 _ = _
  simp [Ideal.ofBits, Ideal.ieee, -EReal.coe_mul]; norm_num

/-- The word for 22, as a number. -/
theorem twentytwo_eq : FloatOps.ofBits (F := Ideal) .f32 0x41B00000#32 = ((22 : ℝ) : EReal) := by
  show Ideal.ofBits .f32 _ = _
  simp [Ideal.ofBits, Ideal.ieee, -EReal.coe_mul]; norm_num

/-- The word for 15, as a number. -/
theorem fifteen_eq : FloatOps.ofBits (F := Ideal) .f32 0x41700000#32 = ((15 : ℝ) : EReal) := by
  show Ideal.ofBits .f32 _ = _
  simp [Ideal.ofBits, Ideal.ieee, -EReal.coe_mul]; norm_num

/-- The word for 384, as a number. -/
theorem keys_eq : FloatOps.ofBits (F := Ideal) .f32 0x43C00000#32 = ((384 : ℝ) : EReal) := by
  show Ideal.ofBits .f32 _ = _
  simp [Ideal.ofBits, Ideal.ieee, -EReal.coe_mul]; norm_num

/-- The word for infinity is the top. -/
theorem inf_eq : FloatOps.ofBits (F := Ideal) .f32 0x7F800000#32 = ⊤ := by
  show Ideal.ofBits .f32 _ = _
  simp [Ideal.ofBits, Ideal.ieee]

/-- What the programs add under the root is a real number. -/
theorem eps_eq : ∃ e : ℝ, FloatOps.ofBits (F := Ideal) .f32 0x358637BD#32 = (e : EReal) :=
  ⟨_, by show Ideal.ofBits .f32 _ = _; simp [Ideal.ofBits, Ideal.ieee, -EReal.coe_mul]; rfl⟩

end Cert.Consts

end
-- ==== Proof.TileRead.lean ====
/- The features kernel's tiles over the extended reals, read at a pair and a key. -/
module

public import proofs.«01_k».proof.Proof.Tiles
public import proofs.«01_k».proof.Proof.Consts
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.SL Idealize.SL.Sem

/-- The distance of two points given by their coordinates, the query's less the key's, with what keeps the root off zero. -/
def far (q k : Fin 3 → EReal) : EReal :=
  Ideal.sqrt ((q 0 - k 0) * (q 0 - k 0) + (q 1 - k 1) * (q 1 - k 1) + (q 2 - k 2) * (q 2 - k 2)
    + FloatOps.ofBits (F := Ideal) .f32 0x358637BD#32)

/-- Row `32 a + p` of 96: coordinate `a` of pair `p`. -/
def crow (a : Fin 3) (p : Fin 32) : Fin 96 := ⟨32 * a.val + p.val, by omega⟩

/-- The feature `r` of a distance: sixteen radial bumps, then one over one more. -/
def feat (r : ℕ) (d : EReal) : EReal :=
  if r < 16 then Ideal.exp (-((d - Consts.mu r) * (d - Consts.mu r))) else Ideal.div 1 (1 + d)

section
variable (c : Dev nD) (arg1 : Memref sig .tc .vmem S24x96x1 .f32) (harg1 : arg1.IsWhole) (arg2 : Memref sig .tc .vmem S96x384 .f32) (harg2 : arg2.IsWhole)
    (x0 : Vec Ideal S24x96x1 .f32) (x1 : Vec Ideal S96x384 .f32)

/-- The query's coordinates are row `j` of the block. -/
theorem qv_apply (j : Fin 24) (r : Fin 96) : qv c arg1 harg1 x0 j (ix2 r 0) = x0 (ix3 j r 0) := by
  unfold qv
  rw [View.readAt_eq_ld, harg1.read_unread]
  pointwise

/-- The difference of coordinate 0. -/
theorem del0_apply (j : Fin 24) (p : Fin 32) (b : Fin 384) :
    del0 c arg1 harg1 arg2 harg2 x0 x1 j (ix2 p b) = x0 (ix3 j (crow 0 p) 0) - x1 (ix2 (crow 0 p) b) := by
  have h := fun r => qv_apply c arg1 harg1 x0 j r
  unfold del0
  rw [View.readAt_eq_ld, harg2.read_unread]
  generalize qv c arg1 harg1 x0 j = q at *
  pointwise [h]
  first
  | done
  | rfl
  | (have e : crow 0 p = ⟨0 + p.val, by omega⟩ := Fin.ext (by simp [crow])
     simp only [e, Nat.zero_add])

/-- The difference of coordinate 1. -/
theorem del1_apply (j : Fin 24) (p : Fin 32) (b : Fin 384) :
    del1 c arg1 harg1 arg2 harg2 x0 x1 j (ix2 p b) = x0 (ix3 j (crow 1 p) 0) - x1 (ix2 (crow 1 p) b) := by
  have h := fun r => qv_apply c arg1 harg1 x0 j r
  unfold del1
  rw [View.readAt_eq_ld, harg2.read_unread]
  generalize qv c arg1 harg1 x0 j = q at *
  pointwise [h]
  first
  | done
  | rfl
  | (have e : crow 1 p = ⟨32 + p.val, by omega⟩ := Fin.ext (by simp [crow])
     simp only [e, Nat.zero_add])

/-- The difference of coordinate 2. -/
theorem del2_apply (j : Fin 24) (p : Fin 32) (b : Fin 384) :
    del2 c arg1 harg1 arg2 harg2 x0 x1 j (ix2 p b) = x0 (ix3 j (crow 2 p) 0) - x1 (ix2 (crow 2 p) b) := by
  have h := fun r => qv_apply c arg1 harg1 x0 j r
  unfold del2
  rw [View.readAt_eq_ld, harg2.read_unread]
  generalize qv c arg1 harg1 x0 j = q at *
  pointwise [h]
  first
  | done
  | rfl
  | (have e : crow 2 p = ⟨64 + p.val, by omega⟩ := Fin.ext (by simp [crow])
     simp only [e, Nat.zero_add])

/-- The distances of row `j`. -/
theorem dist_apply (j : Fin 24) (p : Fin 32) (b : Fin 384) :
    dist c arg1 harg1 arg2 harg2 x0 x1 j (ix2 p b) =
      far (fun a => x0 (ix3 j (crow a p) 0)) (fun a => x1 (ix2 (crow a p) b)) := by
  have h0 := del0_apply c arg1 harg1 arg2 harg2 x0 x1 j p b
  have h1 := del1_apply c arg1 harg1 arg2 harg2 x0 x1 j p b
  have h2 := del2_apply c arg1 harg1 arg2 harg2 x0 x1 j p b
  unfold dist far
  generalize del0 c arg1 harg1 arg2 harg2 x0 x1 j = d0 at *
  generalize del1 c arg1 harg1 arg2 harg2 x0 x1 j = d1 at *
  generalize del2 c arg1 harg1 arg2 harg2 x0 x1 j = d2 at *
  rw [← h0, ← h1, ← h2]
  rfl

end

/-- A radial bump's tile. -/
theorem bump_apply (mu : EReal) (d : FVec Ideal S32x384 .f32) (p : Fin 32) (b : Fin 384) :
    bump (F := Ideal) mu d (ix2 p b) = Ideal.exp (-((d (ix2 p b) - mu) * (d (ix2 p b) - mu))) := by
  have h : bump (F := Ideal) mu d (ix2 p b) = Ideal.exp (FloatOps.ofBits (F := Ideal) .f32 0x00000000#32 - (d (ix2 p b) - mu) * (d (ix2 p b) - mu)) := by
    unfold bump
    pointwise
  rw [h, Consts.zero_eq, zero_sub]

/-- The tile of one over one more. -/
theorem inv_apply (d : FVec Ideal S32x384 .f32) (p : Fin 32) (b : Fin 384) :
    inv (F := Ideal) d (ix2 p b) = Ideal.div 1 (1 + d (ix2 p b)) := by
  unfold inv
  pointwise

/-- What the whole scratch holds at row `k` and column `m`: pair `k % 32`, feature `k / 32`, query `m / 384`, key `m % 384`. -/
def feats (x0 : Vec Ideal S24x96x1 .f32) (x1 : Vec Ideal S96x384 .f32) (y : S544x9216.Idx) : EReal :=
  feat ((y 0).val / 32) (far (fun a => x0 (ix3 ⟨(y 1).val / 384, by have : (y 1).val < 9216 := (y 1).isLt; omega⟩ (crow a ⟨(y 0).val % 32, by omega⟩) 0))
    (fun a => x1 (ix2 (crow a ⟨(y 0).val % 32, by omega⟩) ⟨(y 1).val % 384, by omega⟩)))

/-- The same at an index of a tile. -/
theorem feats_sl (x0 : Vec Ideal S24x96x1 .f32) (x1 : Vec Ideal S96x384 .f32) (j : Fin 24) (r : Fin 17) (p : Fin 32) (b : Fin 384) :
    feats x0 x1 ((sl j r).emb (ix2 p b)) = feat r (far (fun a => x0 (ix3 j (crow a p) 0)) (fun a => x1 (ix2 (crow a p) b))) := by
  have h0 : ((sl j r).emb (ix2 p b) 0 : Nat) = 32 * r + p :=
    (Rect.emb_apply (sl j r) (ix2 p b) 0).trans (by show 32 * r.val + 1 * p.val = _; omega)
  have h1 : ((sl j r).emb (ix2 p b) 1 : Nat) = 384 * j + b :=
    (Rect.emb_apply (sl j r) (ix2 p b) 1).trans (by show 384 * j.val + 1 * b.val = _; omega)
  unfold feats
  have e1 : ((sl j r).emb (ix2 p b) 0).val / 32 = r.val := by rw [h0]; omega
  have e2 : ((sl j r).emb (ix2 p b) 0).val % 32 = p.val := by rw [h0]; omega
  have e3 : ((sl j r).emb (ix2 p b) 1).val / 384 = j.val := by rw [h1]; omega
  have e4 : ((sl j r).emb (ix2 p b) 1).val % 384 = b.val := by rw [h1]; omega
  simp only [e1, e2, e3, e4]

end Cert.KernelIdeal.Gen

end
-- ==== Proof.Scratch0.lean ====
/- What the features kernel leaves in its scratch, over the extended reals. -/
module

public import proofs.«01_k».proof.Proof.TileRead
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.SL Idealize.SL.Sem

section
variable (c : Dev nD) (arg1 : Memref sig .tc .vmem S24x96x1 .f32) (harg1 : arg1.IsWhole) (arg2 : Memref sig .tc .vmem S96x384 .f32) (harg2 : arg2.IsWhole)
    (x0 : Vec Ideal S24x96x1 .f32) (x1 : Vec Ideal S96x384 .f32)

/-- A radial bump's tile agrees with the table of features. -/
theorem bump_piece (j : Fin 24) (r : Fin 17) (hr : r.val < 16) (m : EReal) (hm : m = Consts.mu r.val) (x : S32x384.Idx) :
    bump (F := Ideal) m (dist c arg1 harg1 arg2 harg2 x0 x1 j) x = feats x0 x1 ((sl j r).emb x) := by
  obtain ⟨p, b, rfl⟩ : ∃ (p : Fin 32) (b : Fin 384), x = ix2 p b := ⟨x 0, x 1, eq_ix2 x⟩
  rw [bump_apply, dist_apply, hm]
  refine Eq.trans ?_ (feats_sl x0 x1 j r p b).symm
  rw [feat, if_pos hr]

/-- So does the last tile. -/
theorem inv_piece (j : Fin 24) (x : S32x384.Idx) :
    inv (F := Ideal) (dist c arg1 harg1 arg2 harg2 x0 x1 j) x = feats x0 x1 ((sl j 16).emb x) := by
  obtain ⟨p, b, rfl⟩ : ∃ (p : Fin 32) (b : Fin 384), x = ix2 p b := ⟨x 0, x 1, eq_ix2 x⟩
  rw [inv_apply, dist_apply]
  refine Eq.trans ?_ (feats_sl x0 x1 j 16 p b).symm
  rw [feat, if_neg (by decide)]

/-- A named centre is the number it stands for. -/
theorem named_mu (n : String) (b : BitVec FTy.f32.bits) (r : ℕ) (q : ℝ) (hq : q = (6 + 4 * r) / 3) (h : κ n = some (q : EReal)) :
    (Named.named κ n b : Ideal .f32) = Consts.mu r :=
  (IdealRules.named_const.ideal_named_scalar (φ := .f32) κ n b _ h).trans (congrArg (fun z : ℝ => (z : EReal)) hq)

/-- Every tile of row `j` agrees with the table of features. -/
theorem row_pieces (j : Fin 24) : ∀ p ∈ row c arg1 harg1 arg2 harg2 x0 x1 j, ∀ x : p.1.shape.Idx, p.2 x = feats x0 x1 (p.1.emb x) := by
  unfold row
  refine List.forall_mem_cons.2 ⟨inv_piece c arg1 harg1 arg2 harg2 x0 x1 j, ?_⟩
  refine List.forall_mem_cons.2 ⟨bump_piece c arg1 harg1 arg2 harg2 x0 x1 j 15 (by decide) _ Consts.mu15_eq, ?_⟩
  refine List.forall_mem_cons.2 ⟨bump_piece c arg1 harg1 arg2 harg2 x0 x1 j 14 (by decide) _ (named_mu _ _ 14 (62 / 3) (by norm_num) rfl), ?_⟩
  refine List.forall_mem_cons.2 ⟨bump_piece c arg1 harg1 arg2 harg2 x0 x1 j 13 (by decide) _ (named_mu _ _ 13 (58 / 3) (by norm_num) rfl), ?_⟩
  refine List.forall_mem_cons.2 ⟨bump_piece c arg1 harg1 arg2 harg2 x0 x1 j 12 (by decide) _ Consts.mu12_eq, ?_⟩
  refine List.forall_mem_cons.2 ⟨bump_piece c arg1 harg1 arg2 harg2 x0 x1 j 11 (by decide) _ (named_mu _ _ 11 (50 / 3) (by norm_num) rfl), ?_⟩
  refine List.forall_mem_cons.2 ⟨bump_piece c arg1 harg1 arg2 harg2 x0 x1 j 10 (by decide) _ (named_mu _ _ 10 (46 / 3) (by norm_num) rfl), ?_⟩
  refine List.forall_mem_cons.2 ⟨bump_piece c arg1 harg1 arg2 harg2 x0 x1 j 9 (by decide) _ Consts.mu9_eq, ?_⟩
  refine List.forall_mem_cons.2 ⟨bump_piece c arg1 harg1 arg2 harg2 x0 x1 j 8 (by decide) _ (named_mu _ _ 8 (38 / 3) (by norm_num) rfl), ?_⟩
  refine List.forall_mem_cons.2 ⟨bump_piece c arg1 harg1 arg2 harg2 x0 x1 j 7 (by decide) _ (named_mu _ _ 7 (34 / 3) (by norm_num) rfl), ?_⟩
  refine List.forall_mem_cons.2 ⟨bump_piece c arg1 harg1 arg2 harg2 x0 x1 j 6 (by decide) _ Consts.mu6_eq, ?_⟩
  refine List.forall_mem_cons.2 ⟨bump_piece c arg1 harg1 arg2 harg2 x0 x1 j 5 (by decide) _ (named_mu _ _ 5 (26 / 3) (by norm_num) rfl), ?_⟩
  refine List.forall_mem_cons.2 ⟨bump_piece c arg1 harg1 arg2 harg2 x0 x1 j 4 (by decide) _ (named_mu _ _ 4 (22 / 3) (by norm_num) rfl), ?_⟩
  refine List.forall_mem_cons.2 ⟨bump_piece c arg1 harg1 arg2 harg2 x0 x1 j 3 (by decide) _ Consts.mu3_eq, ?_⟩
  refine List.forall_mem_cons.2 ⟨bump_piece c arg1 harg1 arg2 harg2 x0 x1 j 2 (by decide) _ (named_mu _ _ 2 (14 / 3) (by norm_num) rfl), ?_⟩
  refine List.forall_mem_cons.2 ⟨bump_piece c arg1 harg1 arg2 harg2 x0 x1 j 1 (by decide) _ (named_mu _ _ 1 (10 / 3) (by norm_num) rfl), ?_⟩
  refine List.forall_mem_cons.2 ⟨bump_piece c arg1 harg1 arg2 harg2 x0 x1 j 0 (by decide) _ Consts.mu0_eq, ?_⟩
  exact fun p h => absurd h List.not_mem_nil

/-- The whole scratch holds the table of features. -/
theorem scratch_eq : View.canon (kernelRun0_A.sl.HS0_408 (F := Ideal) c arg1 harg1 arg2 harg2 x0 x1) = feats x0 x1 := by
  funext y
  refine View.canon_apply_of_pieces (feats x0 x1) _ ?_ y (View.cover_of_tiledL (kernelRun0_A.sl.HS0_408 (F := Ideal) c arg1 harg1 arg2 harg2 x0 x1) S32x384.size (by sl_kernel_rfl) y)
  intro p hp
  rw [pieces_eq] at hp
  simp only [List.mem_append] at hp
  rcases hp with h | h | h | h | h | h | h | h | h | h | h | h | h | h | h | h | h | h | h | h | h | h | h | h
  all_goals exact row_pieces c arg1 harg1 arg2 harg2 x0 x1 _ p h
end

end Cert.KernelIdeal.Gen

end
-- ==== Proof.Block0.lean ====
/- One block of the features region: its output over the extended reals. -/
module

public import proofs.«01_k».proof.Proof.Scratch0

@[expose] public section

set_option maxRecDepth 16384

noncomputable section

namespace Cert.KernelIdeal.Gen

open Idealize.ShloMosaic Idealize.ShloMosaic.TcCoe Idealize.ShloMosaic.Tactic Idealize.SL Idealize.SL.Sem

/-- The kernel's product of the scratch with the weights. -/
theorem pay2_apply (s : Vec Ideal S544x9216 .bf16) (w : Vec Ideal S544x128 .bf16) (j : Fin 24) (b : Fin 384) (o : Fin 128) :
    k0_pay2 (F := Ideal) s w (ix3 j b o) =
      ∑ k : Fin 544, (s (ix2 k ⟨384 * j.val + b.val, by omega⟩) * w (ix2 k o) : EReal) := by
  unfold k0_pay2
  pointwise
  simp only [Nat.mul_comm j.val 384]

section
variable (c : Dev nD) (i : grid0.Coords) (arg1 : Memref sig .tc .vmem S24x96x1 .f32) (harg1 : arg1.IsWhole) (arg2 : Memref sig .tc .vmem S96x384 .f32) (harg2 : arg2.IsWhole) (arg3 : Memref sig .tc .vmem S544x128 .bf16) (harg3 : arg3.IsWhole) (arg4 : Memref sig .tc .vmem S24x384x128 .f32) (harg4 : arg4.IsWhole) (arg5 : Memref sig .tc .vmem S544x9216 .bf16) (harg5 : arg5.IsWhole)

/-- The kernel stores one block: the product of what its scratch holds with the weights. -/
theorem run0_pieces {F : FTy → Type} [FloatOps F] [Named F] (x0 : Vec F S24x96x1 .f32) (x1 : Vec F S96x384 .f32) (x2 : Vec F S544x128 .bf16) :
    (kernelRun0_A c i arg1 harg1 arg2 harg2 arg3 harg3 arg4 harg4 arg5 harg5 x0 x1 x2).1 =
      [⟨Rect.unit ![0,0,0] S24x384x128.size inb_S24x384x128_S24x384x128_0_0_0,
        k0_pay2 (arg5.view.readCov (kernelRun0_A.sl.HS0_408 c arg1 harg1 arg2 harg2 x0 x1) (Rect.unit ![0,0] S544x9216.size inb_S544x9216_S544x9216_0_0).toLoadRect)
          (View.readAt (Elt F) arg3.view (Rect.unit ![0,0] S544x128.size inb_S544x128_S544x128_0_0).toLoadRect (harg3.unread x2))⟩] := by
  sl_kernel_rfl

/-- The block's output at a query, a key and a channel. -/
theorem out0_apply (x0 : Vec Ideal S24x96x1 .f32) (x1 : Vec Ideal S96x384 .f32) (x2 : Vec Ideal S544x128 .bf16)
    (j : Fin 24) (b : Fin 384) (o : Fin 128) :
    out0_A_3 (F := Ideal) c i arg1 harg1 arg2 harg2 arg3 harg3 arg4 harg4 arg5 harg5 x0 x1 x2 (ix3 j b o) =
      ∑ k : Fin 544, (feats x0 x1 (ix2 k ⟨384 * j.val + b.val, by omega⟩) * x2 (ix2 k o) : EReal) := by
  unfold out0_A_3
  rw [View.read_writes_junk_eq_canon, run0_pieces, View.canon_unit_zero (by funext a; fin_cases a <;> rfl), pay2_apply]
  refine Finset.sum_congr rfl fun k _ => ?_
  rw [View.readCov_eq_canon', scratch_eq, View.readAt_eq_ld, harg3.read_unread]
  pointwise
end

end Cert.KernelIdeal.Gen

end
-- ==== Proof.Region0.lean ====
/- The features region: the array it leaves, over the extended reals. -/
module

public import proofs.«01_k».proof.Proof.Block0
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic Idealize.SL Idealize.SL.Sem
open Idealize.ShloMosaic.Pipeline (Dat)

variable (V : (c : Dev nD) → (b : Ref sig .tc) → Buf (Elt Ideal) ((c : Thread nD τ).loc b))

/-- The features of queries against keys, times the weights. -/
def table (q : Vec Ideal S384x96x1 .f32) (k : Vec Ideal S96x384 .f32) (w : Vec Ideal S544x128 .bf16) (y : S384x384x128.Idx) : EReal :=
  ∑ n : Fin 544, feat (n.val / 32) (far (fun a => q (ix3 (y 0) (crow a ⟨n.val % 32, by omega⟩) 0))
    (fun a => k (ix2 (crow a ⟨n.val % 32, by omega⟩) (y 1)))) * w (ix2 n (y 2))

/-- Step `t` reads query block `t`. -/
theorem index0_0 : ∀ t : Fin cfg0.N, win0_0.index t = ![t.val, 0, 0] := (by decide +kernel : ∀ t : Fin grid0.N, _)
/-- Every step reads all keys. -/
theorem index0_1 : ∀ t : Fin cfg0.N, win0_1.index t = ![0, 0] := (by decide +kernel : ∀ t : Fin grid0.N, _)
/-- Every step reads all weights. -/
theorem index0_2 : ∀ t : Fin cfg0.N, win0_2.index t = ![0, 0] := (by decide +kernel : ∀ t : Fin grid0.N, _)
/-- Step `t` writes output block `t`. -/
theorem index0_3 : ∀ t : Fin cfg0.N, win0_3.index t = ![t.val, 0, 0] := (by decide +kernel : ∀ t : Fin grid0.N, _)

/-- The query block at point `t`: rows `24 t` onwards. -/
theorem iblk0_0_apply (c : Dev nD) (t : Fin cfg0.N) (j : Fin 24) (r : Fin 96) (h : 24 * t.val + j.val < 384) :
    iblk0 V c 0 t (ix3 j r 0) = V c main_call0_v32 (ix3 ⟨24 * t.val + j.val, h⟩ r 0) := by
  have e : (win0_0.blk t).view.emb (ix3 j r 0) = ix3 ⟨24 * t.val + j.val, h⟩ r 0 := by blk_ext [index0_0]
  unfold iblk0
  blk_simp
  exact congrArg (V c main_call0_v32) e

/-- The keys' block is the whole array. -/
theorem iblk0_1_apply (c : Dev nD) (t : Fin cfg0.N) (r : Fin 96) (b : Fin 384) :
    iblk0 V c 1 t (ix2 r b) = V c main_call0_v39 (ix2 r b) := by
  have e : (win0_1.blk t).view.emb (ix2 r b) = ix2 r b := by blk_ext [index0_1]
  unfold iblk0
  blk_simp
  exact congrArg (V c main_call0_v39) e

/-- The weights' block is the whole array. -/
theorem iblk0_2_apply (c : Dev nD) (t : Fin cfg0.N) (r : Fin 544) (b : Fin 128) :
    iblk0 V c 2 t (ix2 r b) = V c main_call0_v47 (ix2 r b) := by
  have e : (win0_2.blk t).view.emb (ix2 r b) = ix2 r b := by blk_ext [index0_2]
  unfold iblk0
  blk_simp
  exact congrArg (V c main_call0_v47) e

/-- The features at a row, a query and a key of one block. -/
theorem feats_ix2 (x0 : Vec Ideal S24x96x1 .f32) (x1 : Vec Ideal S96x384 .f32) (n : Fin 544) (j : Fin 24) (b : Fin 384) (h : 384 * j.val + b.val < 9216) :
    feats x0 x1 (ix2 n ⟨384 * j.val + b.val, h⟩) =
      feat (n.val / 32) (far (fun a => x0 (ix3 j (crow a ⟨n.val % 32, by omega⟩) 0)) (fun a => x1 (ix2 (crow a ⟨n.val % 32, by omega⟩) b))) := by
  have e1 : (384 * j.val + b.val) / 384 = j.val := by omega
  have e2 : (384 * j.val + b.val) % 384 = b.val := by omega
  show feat (n.val / 32) (far (fun a => x0 (ix3 ⟨(384 * j.val + b.val) / 384, _⟩ (crow a ⟨n.val % 32, _⟩) 0)) (fun a => x1 (ix2 (crow a ⟨n.val % 32, _⟩) ⟨(384 * j.val + b.val) % 384, _⟩))) = _
  simp only [e1, e2]

/-- The region's output array is the table. -/
theorem region0_out (c : Dev nD) :
    (dat0 V c).arrAt 3 cfg0.N = table (V c main_call0_v32) (V c main_call0_v39) (V c main_call0_v47) := by
  refine (dat0 V c).arrAt_eq_of_covers 3 _ (by decide +kernel) fun t hf y => ?_
  blk_simp
  rw [after0_3]
  unfold outsAt0
  obtain ⟨j, b, o, rfl⟩ : ∃ (j : Fin 24) (b : Fin 384) (o : Fin 128), y = ix3 j b o := ⟨y 0, y 1, y 2, eq_ix3 y⟩
  have hN : cfg0.N = 16 := N_0
  have ht : t.val < 16 := hN ▸ t.isLt
  have h : 24 * t.val + j.val < 384 := by omega
  have e : (win0_3.blk t).view.emb (ix3 j b o) = ix3 ⟨24 * t.val + j.val, h⟩ b o := by blk_ext [index0_3]
  refine (out0_apply _ _ _ _ _ _ _ _ _ _ _ _ _ _ _ j b o).trans ?_
  refine Eq.trans ?_ (congrArg (table (V c main_call0_v32) (V c main_call0_v39) (V c main_call0_v47)) e).symm
  unfold table
  refine Finset.sum_congr rfl fun n _ => ?_
  rw [feats_ix2, iblk0_2_apply]
  refine congrArg (fun z : EReal => feat (n.val / 32) z * V c main_call0_v47 (ix2 n o)) (congrArg₂ far ?_ ?_)
  · funext a; exact iblk0_0_apply V c t j _ h
  · funext a; exact iblk0_1_apply V c t _ b

end Cert.KernelIdeal.Gen

end
-- ==== Proof.Rounds.lean ====
/- Selecting the smallest entries of one row by rounds: each round takes the least value left, the
   lowest position holding it, and overwrites that position with infinity. On a row of values below
   infinity, round `t` picks the position a stable ascending sort of the row puts at `t`. -/
module

public import Idealize.ShloMosaic.Lib.SortFacts
public import Idealize.ShloMosaic.Lib.SortPrefix
public import Mathlib.Data.EReal.Basic
public import Mathlib.Data.Finset.Lattice.Fold

@[expose] public section

noncomputable section

namespace Cert.Rounds

open Idealize.ShloMosaic

/-- Two comparators that agree on every pair taken in list order sort the list alike. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ} (D : Fin n → EReal)

/-- The value first, then the position: the order of a stable ascending sort. -/
def lex (a b : Fin n) : Bool := decide (D a < D b) || (decide (D a = D b) && decide (a < b))

/-- That order is strict and total. -/
theorem lex_strict : StrictTotalBefore (lex D) :=
  StrictTotalBefore.of_key_then_position (fun x y : EReal => decide (x < y)) D
    (fun a => by simp) (fun a b c h h' => by simp only [decide_eq_true_eq] at *; exact h.trans h')
    (fun a b => by simp only [decide_eq_true_eq]; exact lt_trichotomy a b)

/-- The position a stable ascending sort of the row puts at `t`. -/
def order (t : Fin n) : Fin n := sortedFrom (fun a b => decide (D a < D b)) t

/-- Sorting by the value alone, stably, is sorting by the value and then the position. -/
theorem order_eq (t : Fin n) : order D t = sortedFrom (lex D) t := by
  have h : sortPositions n (fun a b => decide (D a < D b)) = sortPositions n (lex D) :=
    stableSort_congr_of_pairwise _ _ _ ((List.pairwise_lt_finRange n).imp fun {a b} hab => by
      unfold lex
      rw [decide_eq_false (p := b < a) (by omega)]; simp)
  unfold order sortedFrom
  rw [List.get_of_eq h]
  rfl

/-- No position stands at two places. -/
theorem order_injective : Function.Injective (order D) := sortedFrom_injective _

/-- Every position stands at some place. -/
theorem order_surjective : Function.Surjective (order D) := sortedFrom_surjective _

/-- An earlier place of the sort holds a smaller value, or an equal one at a lower position. -/
theorem order_le {s t : Fin n} (h : s ≤ t) :
    D (order D s) < D (order D t) ∨ (D (order D s) = D (order D t) ∧ order D s ≤ order D t) := by
  rcases eq_or_lt_of_le h with rfl | h
  · exact Or.inr ⟨rfl, le_rfl⟩
  have hn := sortedFrom_noInversion (lex D) (lex D) (fun a b => (lex_strict D).asymm a b) (fun _ _ h => h)
    (lex_strict D).negTrans s t h
  rw [← order_eq, ← order_eq] at hn
  unfold lex at hn
  simp only [Bool.or_eq_false_iff, Bool.and_eq_false_iff, decide_eq_false_iff_not, not_lt] at hn
  rcases eq_or_lt_of_le hn.1 with e | e
  · exact Or.inr ⟨e, hn.2.resolve_left fun hh => hh e.symm⟩
  · exact Or.inl e

/-- The position a round picks on the row `d`: the least value, then the lowest position holding it
    (`c` stands at the other positions). -/
def pick (c : EReal) (d : Fin n → EReal) : EReal :=
  Finset.univ.inf fun j => if d j = Finset.univ.inf d then ((j.val : ℝ) : EReal) else c

/-- What a round leaves: infinity at the picked position. -/
def next (c : EReal) (d : Fin n → EReal) : Fin n → EReal :=
  fun j => if ((j.val : ℝ) : EReal) = pick c d then ⊤ else d j

/-- The row after `t` rounds. -/
def left (c : EReal) : ℕ → Fin n → EReal
  | 0 => D
  | t + 1 => next c (left c t)

/-- A row whose first `t` places of the sort hold infinity: its pick is the place `t`. -/
theorem pick_of (c : EReal) (hc : ∀ j : Fin n, ((j.val : ℝ) : EReal) ≤ c) (hD : ∀ j, D j < ⊤) (t : Fin n)
    (d : Fin n → EReal) (hd : ∀ s, d (order D s) = if s < t then ⊤ else D (order D s)) :
    pick c d = (((order D t).val : ℝ) : EReal) := by
  have hmin : Finset.univ.inf d = D (order D t) := by
    apply le_antisymm
    · have := Finset.inf_le (f := d) (Finset.mem_univ (order D t))
      rwa [hd t, if_neg (lt_irrefl t)] at this
    · refine Finset.le_inf fun j _ => ?_
      obtain ⟨s, rfl⟩ := order_surjective D j
      rw [hd s]
      split
      · exact le_top
      · rename_i hs
        rcases order_le D (not_lt.mp hs) with h | h
        · exact h.le
        · exact h.1.le
  unfold pick
  rw [hmin]
  apply le_antisymm
  · have := Finset.inf_le (f := fun j => if d j = D (order D t) then ((j.val : ℝ) : EReal) else c) (Finset.mem_univ (order D t))
    rwa [if_pos (by rw [hd t, if_neg (lt_irrefl t)])] at this
  · refine Finset.le_inf fun j _ => ?_
    split
    · rename_i hj
      obtain ⟨s, rfl⟩ := order_surjective D j
      rw [hd s] at hj
      by_cases hs : s < t
      · rw [if_pos hs] at hj
        exact absurd hj.symm (hD _).ne
      · rw [if_neg hs] at hj
        rcases order_le D (not_lt.mp hs) with h | h
        · exact absurd hj h.ne'
        · have : (order D t).val ≤ (order D s).val := h.2
          exact_mod_cast this
    · exact hc _

/-- One round more. -/
theorem left_succ (c : EReal) (t : ℕ) : left D c (t + 1) = next c (left D c t) := rfl

/-- After `t` rounds the first `t` places of the sort hold infinity and the others their values. -/
theorem left_order (c : EReal) (hc : ∀ j : Fin n, ((j.val : ℝ) : EReal) ≤ c) (hD : ∀ j, D j < ⊤) (t : ℕ) (ht : t ≤ n)
    (s : Fin n) : left D c t (order D s) = if s.val < t then ⊤ else D (order D s) := by
  induction t generalizing s with
  | zero => rw [if_neg (Nat.not_lt_zero _)]; rfl
  | succ t ih =>
    have hp := pick_of D c hc hD ⟨t, ht⟩ (left D c t) fun s => by
      rw [ih (Nat.le_of_succ_le ht) s]; rfl
    show next c (left D c t) (order D s) = _
    unfold next
    rw [hp, ih (Nat.le_of_succ_le ht) s]
    by_cases hs : s = ⟨t, ht⟩
    · subst hs; rw [if_pos rfl, if_pos (Nat.lt_succ_self t)]
    · have h1 : ¬((((order D s).val : ℝ) : EReal) = (((order D ⟨t, ht⟩).val : ℝ) : EReal)) := fun e => by
        apply hs; apply order_injective D; apply Fin.ext; exact_mod_cast e
      rw [if_neg h1]
      have h2 : s.val ≠ t := fun e => hs (Fin.ext e)
      by_cases h3 : s.val < t
      · rw [if_pos h3, if_pos (by omega)]
      · rw [if_neg h3, if_neg (by omega)]

/-- Round `t` picks the place `t` of the stable ascending sort. -/
theorem pick_left (c : EReal) (hc : ∀ j : Fin n, ((j.val : ℝ) : EReal) ≤ c) (hD : ∀ j, D j < ⊤) (t : Fin n) :
    pick c (left D c t.val) = (((order D t).val : ℝ) : EReal) :=
  pick_of D c hc hD t _ fun s => by rw [left_order D c hc hD t.val t.isLt.le s]; rfl

end Cert.Rounds

end
-- ==== Proof.Loop1.lean ====
/- The neighbours kernel's counted loop over the extended reals: each trip is one round of the selection, row by row. -/
module

public import proofs.«01_k».proof.Proof.Gen.KernelIdeal.Frame
public import proofs.«01_k».proof.Proof.Rounds
public import proofs.«01_k».proof.Proof.Consts
public import Idealize.ShloMosaic.Lib.Pointwise
public import Idealize.ShloMosaic.Lib.Updates.Loop
public import proofs.«01_k».proof.Proof.TileRead

@[expose] public section

set_option maxRecDepth 16384

noncomputable section

namespace Cert.KernelIdeal.Gen

open Idealize.ShloMosaic Idealize.ShloMosaic.TcCoe Idealize.ShloMosaic.Tactic Idealize.SL Idealize.SL.Sem

/-- A small natural number as a word, read signed, is itself. -/
theorem toInt_small (n : ℕ) (h : n < 2 ^ 31) : (BitVec.ofNat 32 n).toInt = n := by
  rw [BitVec.toInt_eq_toNat_of_lt (by rw [BitVec.toNat_ofNat]; omega), BitVec.toNat_ofNat]; omega

/-- A small natural number as a word, as a number. -/
theorem sitofp_small (n : ℕ) (h : n < 2 ^ 31) : FloatOps.sitofp (F := Ideal) FTy.f32 (BitVec.ofNat 32 n) = ((n : ℝ) : EReal) := by
  show ((((BitVec.ofNat 32 n).toInt : ℤ) : ℝ) : EReal) = _
  rw [toInt_small n h]; simp

/-- The least of a row, read as the reduction reads it. -/
theorem fold_inf {n : ℕ} (f : Fin n → EReal) :
    Finset.fold min (Ideal.ofBits FTy.f32 0x7F800000#32) f Finset.univ = Finset.univ.inf f := by
  have e : Ideal.ofBits FTy.f32 0x7F800000#32 = ⊤ := Consts.inf_eq
  rw [e]; rfl

/-- What the rounds put where no key is the nearest: 384. -/
abbrev cap : EReal := ((384 : ℝ) : EReal)

/-- The keys' positions as numbers. -/
theorem pay2_pos (i j : Fin 384) : k1_pay2 (F := Ideal) (ix2 i j) = ((j.val : ℝ) : EReal) := by
  unfold k1_pay2
  pointwise
  exact sitofp_small j.val (by omega)

/-- The position picked in each row. -/
theorem pay4_apply (d : FVec Ideal S384x384 .f32) (i : Fin 384) :
    k1_pay4 (F := Ideal) d (ix2 i 0) = Rounds.pick cap (fun j => d (ix2 i j)) := by
  have h := pay2_pos
  unfold k1_pay4
  generalize k1_pay2 (F := Ideal) = p at *
  pointwise [h]
  have e : Ideal.ofBits FTy.f32 0x43C00000#32 = cap := Consts.keys_eq
  rw [fold_inf, fold_inf, e]
  rfl

/-- The rows after a round. -/
theorem pay6_apply (d : FVec Ideal S384x384 .f32) (i j : Fin 384) :
    k1_pay6 (F := Ideal) d (ix2 i j) = Rounds.next cap (fun j => d (ix2 i j)) j := by
  have h := pay2_pos
  have h4 := pay4_apply d i
  unfold k1_pay6
  generalize k1_pay2 (F := Ideal) = p at *
  generalize k1_pay4 (F := Ideal) d = q at *
  pointwise [h, h4]
  have e : Ideal.ofBits FTy.f32 0x7F800000#32 = ⊤ := Consts.inf_eq
  rw [e]
  rfl

/-- The picks after a round. -/
theorem pay5_apply (k : Fin k1_t1_loop.trips) (d : FVec Ideal S384x384 .f32) (e : FVec Ideal S384x48 .f32) (i : Fin 384) (t : Fin 48) :
    k1_pay5 (F := Ideal) k d e (ix2 i t) = if t.val = k.val then Rounds.pick cap (fun j => d (ix2 i j)) else e (ix2 i t) := by
  have h4 := pay4_apply d i
  unfold k1_pay5
  generalize k1_pay4 (F := Ideal) d = q at *
  pointwise [h4]
  have hk : k.val < 48 := lt_of_lt_of_le k.isLt (by decide)
  have e1 := sitofp_small t.val (by omega)
  have e2 : (Scf.iv 0#32 1#32 k.val).toInt = (k.val : ℤ) := by
    rw [← toInt_small k.val (by omega)]; unfold Scf.iv; simp
  rw [e1, e2]
  by_cases e : t.val = k.val
  · rw [if_pos e, if_pos (by rw [e]; simp)]
  · rw [if_neg e, if_neg]
    intro h
    have h' : ((t.val : ℝ) : EReal) = ((k.val : ℝ) : EReal) := by simpa using h
    exact e (by exact_mod_cast h')

/-- After `n` trips every row is what `n` rounds leave of it and the first `n` picks are made. -/
def After (D : Fin 384 → Fin 384 → EReal) (n : ℕ) (x : FVec Ideal S384x384 .f32 × FVec Ideal S384x48 .f32) : Prop :=
  (∀ i j, x.1 (ix2 i j) = Rounds.left (D i) cap n j) ∧
    ∀ (i : Fin 384) (t : Fin 48), t.val < n → x.2 (ix2 i t) = Rounds.pick cap (Rounds.left (D i) cap t.val)

/-- One trip is one round. -/
theorem after_step (D : Fin 384 → Fin 384 → EReal) (k : Fin k1_t1_loop.trips) (x : FVec Ideal S384x384 .f32 × FVec Ideal S384x48 .f32)
    (h : After D k.val x) : After D (k.val + 1) (k1_pay6 x.1, k1_pay5 k x.1 x.2) := by
  have hrow : ∀ i, (fun j => x.1 (ix2 i j)) = Rounds.left (D i) cap k.val := fun i => funext fun j => h.1 i j
  refine ⟨fun i j => ?_, fun i t ht => ?_⟩
  · dsimp only
    rw [Rounds.left_succ, pay6_apply, hrow]
  · show k1_pay5 (F := Ideal) k x.1 x.2 (ix2 i t) = _
    rw [pay5_apply, hrow]
    split
    · rename_i e; rw [e]
    · exact h.2 i t (by omega)

/-- A fold over all trips, step by step. -/
theorem foldl_steps {σ : Type} (n : ℕ) (g : Fin n → σ → σ) (P : ℕ → σ → Prop) (hg : ∀ (k : Fin n) x, P k.val x → P (k.val + 1) (g k x))
    (x : σ) (h : P 0 x) : P n ((List.finRange n).foldl (fun acc k => g k acc) x) := by
  induction n with
  | zero => exact h
  | succ n ih =>
    rw [List.finRange_succ_last, List.foldl_append, List.foldl_map]
    exact hg (Fin.last n) _ (ih (fun k x => g k.castSucc x) (fun k x hx => hg k.castSucc x hx))

/-- The whole loop is 48 rounds. -/
theorem after_loop (d : FVec Ideal S384x384 .f32) (e : FVec Ideal S384x48 .f32) :
    After (fun i j => d (ix2 i j)) 48
      (Scf.fold (fun (k : Fin k1_t1_loop.trips) (x : FVec Ideal S384x384 .f32 × FVec Ideal S384x48 .f32) => (k1_pay6 x.1, k1_pay5 k x.1 x.2)) (d, e)) := by
  rw [Scf.fold_eq]
  have hn : k1_t1_loop.trips = 48 := by decide
  have h := foldl_steps k1_t1_loop.trips
    (fun (k : Fin k1_t1_loop.trips) (x : FVec Ideal S384x384 .f32 × FVec Ideal S384x48 .f32) => (k1_pay6 x.1, k1_pay5 k x.1 x.2))
    (After (fun i j => d (ix2 i j))) (after_step _) (d, e) ⟨fun _ _ => rfl, fun _ _ h => absurd h (Nat.not_lt_zero _)⟩
  generalize List.foldl _ _ _ = x at h ⊢
  rwa [hn] at h

end Cert.KernelIdeal.Gen

end
-- ==== Proof.Block1.lean ====
/- The neighbours region's block: its output over the extended reals. -/
module

public import proofs.«01_k».proof.Proof.Loop1
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic Idealize.SL Idealize.SL.Sem
open Idealize.ShloMosaic.Pipeline (Dat)

section
variable (c : Dev nD) (i : grid1.Coords) (arg1 : Memref sig .tc .vmem S384x3 .f32) (harg1 : arg1.IsWhole) (arg2 : Memref sig .tc .vmem S3x384 .f32) (harg2 : arg2.IsWhole) (arg3 : Memref sig .tc .vmem S384x48 .i32) (harg3 : arg3.IsWhole)

/-- The distances the kernel starts its rounds from. -/
def start {F : FTy → Type} [FloatOps F] [Named F] (x0 : Vec F S384x3 .f32) (x1 : Vec F S3x384 .f32) : FVec F S384x384 .f32 :=
  k1_pay1
    (View.readAt (Elt F) arg1.view (Rect.unit (s := S384x3) ![0, 0] S384x1.size inb_S384x3_S384x1_0_0).toLoadRect (harg1.unread x0))
    (View.readAt (Elt F) arg2.view (Rect.unit (s := S3x384) ![0, 0] S1x384.size inb_S3x384_S1x384_0_0).toLoadRect (harg2.unread x1))
    (View.readAt (Elt F) arg1.view (Rect.unit (s := S384x3) ![0, 1] S384x1.size inb_S384x3_S384x1_0_1).toLoadRect (harg1.unread x0))
    (View.readAt (Elt F) arg2.view (Rect.unit (s := S3x384) ![1, 0] S1x384.size inb_S3x384_S1x384_1_0).toLoadRect (harg2.unread x1))
    (View.readAt (Elt F) arg1.view (Rect.unit (s := S384x3) ![0, 2] S384x1.size inb_S384x3_S384x1_0_2).toLoadRect (harg1.unread x0))
    (View.readAt (Elt F) arg2.view (Rect.unit (s := S3x384) ![2, 0] S1x384.size inb_S3x384_S1x384_2_0).toLoadRect (harg2.unread x1))

/-- The kernel stores one block: the picks of its loop as words. -/
theorem run1_pieces {F : FTy → Type} [FloatOps F] [Named F] (x0 : Vec F S384x3 .f32) (x1 : Vec F S3x384 .f32) :
    (kernelRun1_A c i arg1 harg1 arg2 harg2 arg3 harg3 x0 x1).1 =
      [⟨Rect.unit ![0,0] S384x48.size inb_S384x48_S384x48_0_0,
        k1_pay7 (Scf.fold (fun (k : Fin k1_t1_loop.trips) (x : FVec F S384x384 .f32 × FVec F S384x48 .f32) => (k1_pay6 x.1, k1_pay5 k x.1 x.2))
          (start arg1 harg1 arg2 harg2 x0 x1, k1_pay3)).2⟩] := by
  sl_kernel_rfl

/-- The distances at a query and a key. -/
theorem start_apply (x0 : Vec Ideal S384x3 .f32) (x1 : Vec Ideal S3x384 .f32) (a b : Fin 384) :
    start arg1 harg1 arg2 harg2 x0 x1 (ix2 a b) = far (fun k => x0 (ix2 a k)) (fun k => x1 (ix2 k b)) := by
  unfold start k1_pay1
  simp only [View.readAt_eq_ld, harg1.read_unread, harg2.read_unread]
  pointwise
  rfl

/-- A position as a word. -/
theorem word_of_pos (n : Fin 384) : FloatOps.fptosi (F := Ideal) (φ := .f32) 32 ((n.val : ℝ) : EReal) = BitVec.ofNat 32 n.val := by
  have hn := n.isLt
  show BitVec.ofInt 32 (max (-(2 ^ 31 : Nat)) (min ((2 ^ 31 : Nat) - 1) (if 0 ≤ (n.val : ℝ) then ⌊(n.val : ℝ)⌋ else ⌈(n.val : ℝ)⌉))) = _
  rw [if_pos (Nat.cast_nonneg _), Int.floor_natCast, min_eq_right (by push_cast; omega), max_eq_right (by push_cast; omega), BitVec.ofInt_natCast]

/-- The block's output at a query and a place: where every distance is below infinity, the key at that place of the sort. -/
theorem out1_apply (x0 : Vec Ideal S384x3 .f32) (x1 : Vec Ideal S3x384 .f32) (a : Fin 384) (t : Fin 48)
    (h : ∀ b, far (fun k => x0 (ix2 a k)) (fun k => x1 (ix2 k b)) < ⊤) :
    out1_A_2 (F := Ideal) c i arg1 harg1 arg2 harg2 arg3 harg3 x0 x1 (ix2 a t) =
      BitVec.ofNat 32 (Rounds.order (fun b => far (fun k => x0 (ix2 a k)) (fun k => x1 (ix2 k b))) ⟨t.val, by omega⟩).val := by
  unfold out1_A_2
  rw [View.read_writes_junk_eq_canon, run1_pieces, View.canon_unit_zero (by funext a; fin_cases a <;> rfl)]
  have e := (after_loop (start arg1 harg1 arg2 harg2 x0 x1) k1_pay3).2 a t t.isLt
  generalize Scf.fold _ _ = y at e ⊢
  simp only [start_apply] at e
  have hp := Rounds.pick_left (fun b => far (fun k => x0 (ix2 a k)) (fun k => x1 (ix2 k b))) cap
    (fun j => by
      have : j.val ≤ 384 := j.isLt.le
      exact_mod_cast this) h ⟨t.val, by omega⟩
  unfold k1_pay7
  pointwise
  rw [e, hp]
  exact word_of_pos _
end

variable (V : (c : Dev nD) → (b : Ref sig .tc) → Buf (Elt Ideal) ((c : Thread nD τ).loc b))

/-- The nearest keys, by the distances of the queries' points to the keys' points. -/
def nearest (q : Vec Ideal S384x3 .f32) (k : Vec Ideal S3x384 .f32) (y : S384x48.Idx) : BitVec 32 :=
  BitVec.ofNat 32 (Rounds.order (fun b => far (fun a => q (ix2 (y 0) a)) (fun a => k (ix2 a b)))
    ⟨(y 1).val, by have : (y 1).val < 48 := (y 1).isLt; omega⟩).val

/-- The one step reads all queries. -/
theorem index1_0 : ∀ t : Fin cfg1.N, win1_0.index t = ![0, 0] := (by decide +kernel : ∀ t : Fin grid1.N, _)
/-- The one step reads all keys. -/
theorem index1_1 : ∀ t : Fin cfg1.N, win1_1.index t = ![0, 0] := (by decide +kernel : ∀ t : Fin grid1.N, _)
/-- The one step writes the whole output. -/
theorem index1_2 : ∀ t : Fin cfg1.N, win1_2.index t = ![0, 0] := (by decide +kernel : ∀ t : Fin grid1.N, _)

/-- The queries' block is the whole array. -/
theorem iblk1_0_apply (c : Dev nD) (t : Fin cfg1.N) (r : Fin 384) (b : Fin 3) :
    iblk1 V c 0 t (ix2 r b) = V c main_call0_v50 (ix2 r b) := by
  have e : (win1_0.blk t).view.emb (ix2 r b) = ix2 r b := by blk_ext [index1_0]
  unfold iblk1
  blk_simp
  exact congrArg (V c main_call0_v50) e

/-- The keys' block is the whole array. -/
theorem iblk1_1_apply (c : Dev nD) (t : Fin cfg1.N) (r : Fin 3) (b : Fin 384) :
    iblk1 V c 1 t (ix2 r b) = V c main_call0_v51 (ix2 r b) := by
  have e : (win1_1.blk t).view.emb (ix2 r b) = ix2 r b := by blk_ext [index1_1]
  unfold iblk1
  blk_simp
  exact congrArg (V c main_call0_v51) e

/-- The region's output array is the nearest keys, where every distance is below infinity. -/
theorem region1_out (c : Dev nD)
    (h : ∀ a b : Fin 384, far (fun k => V c main_call0_v50 (ix2 a k)) (fun k => V c main_call0_v51 (ix2 k b)) < ⊤) :
    (dat1 V c).arrAt 2 cfg1.N = nearest (V c main_call0_v50) (V c main_call0_v51) := by
  refine (dat1 V c).arrAt_eq_of_covers 2 _ (by decide +kernel) fun t hf y => ?_
  blk_simp
  rw [after1_2]
  unfold outsAt1
  obtain ⟨a, k, rfl⟩ : ∃ (a : Fin 384) (k : Fin 48), y = ix2 a k := ⟨y 0, y 1, eq_ix2 y⟩
  have e : (win1_2.blk t).view.emb (ix2 a k) = ix2 a k := by blk_ext [index1_2]
  have e0 : ∀ r : Fin 384, (fun b => iblk1 V c 0 t (ix2 r b)) = fun b => V c main_call0_v50 (ix2 r b) := fun r => funext fun b => iblk1_0_apply V c t r b
  have e1 : ∀ b : Fin 384, (fun r => iblk1 V c 1 t (ix2 r b)) = fun r => V c main_call0_v51 (ix2 r b) := fun b => funext fun r => iblk1_1_apply V c t r b
  refine (out1_apply _ _ _ _ _ _ _ _ _ _ a k fun b => ?_).trans ?_
  · exact (congrArg₂ far (e0 a) (e1 b)).trans_lt (h a b)
  · refine Eq.trans ?_ (congrArg (nearest (V c main_call0_v50) (V c main_call0_v51)) e).symm
    exact congrArg (fun D : Fin 384 → EReal => BitVec.ofNat 32 (Rounds.order D ⟨k.val, by omega⟩).val)
      (funext fun b => congrArg₂ far (e0 a) (e1 b))

end Cert.KernelIdeal.Gen

end
-- ==== Proof.Gather.lean ====
/- The program's gathers read at an index. -/
module

public import proofs.«01_k».proof.Proof.HostValues
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.SL Idealize.SL.Sem

/-- Picking atoms: the atom at the start index, read signed and held to the last one. -/
theorem gather_atoms_apply {α : Type} (x : S384x5x3.Idx → α) (idx : IVec S32x1 32) (i : Fin 384) (p : Fin 32) (k : Fin 3) :
    Host.gather gather_S384x5x3_S32x1_S384x32x3_02_1_n_n_1_1_38413 x idx (ix3 i p k) =
      x (ix3 i ⟨min (idx (ix2 p 0)).toInt.toNat 4, by omega⟩ k) := by
  unfold Host.gather
  congr 1
  funext a
  refine Fin.ext ?_
  match a with
  | ⟨0, _⟩ => show 0 + 0 + i.val = i.val; omega
  | ⟨1, _⟩ =>
    have h : gather_S384x5x3_S32x1_S384x32x3_02_1_n_n_1_1_38413.siIdx (ix3 i p k) ⟨0, by decide⟩ = ix2 p 0 := by
      funext b; refine Fin.ext ?_
      match b with
      | ⟨0, _⟩ => rfl
      | ⟨1, _⟩ => rfl
    show min (idx (gather_S384x5x3_S32x1_S384x32x3_02_1_n_n_1_1_38413.siIdx (ix3 i p k) ⟨0, _⟩)).toInt.toNat 4 + 0 + 0 = min (idx (ix2 p 0)).toInt.toNat 4
    rw [h]; rfl
  | ⟨2, _⟩ => show 0 + 0 + k.val = k.val; omega

/-- Picking rows of the weights: the row at the start index, read signed and held to the last one. -/
theorem gather_rows_apply {α : Type} (x : S426x128.Idx → α) (idx : IVec S544x1 32) (n : Fin 544) (o : Fin 128) :
    Host.gather gather_S426x128_S544x1_S544x128_1_0_n_n_0_1_1128 x idx (ix2 n o) =
      x (ix2 ⟨min (idx (ix2 n 0)).toInt.toNat 425, by omega⟩ o) := by
  unfold Host.gather
  congr 1
  funext a
  refine Fin.ext ?_
  match a with
  | ⟨0, _⟩ =>
    have h : gather_S426x128_S544x1_S544x128_1_0_n_n_0_1_1128.siIdx (ix2 n o) ⟨0, by decide⟩ = ix2 n 0 := by
      funext b; refine Fin.ext ?_
      match b with
      | ⟨0, _⟩ => rfl
      | ⟨1, _⟩ => rfl
    show min (idx (gather_S426x128_S544x1_S544x128_1_0_n_n_0_1_1128.siIdx (ix2 n o) ⟨0, _⟩)).toInt.toNat 425 + 0 + 0 = min (idx (ix2 n 0)).toInt.toNat 425
    rw [h]; rfl
  | ⟨1, _⟩ => show 0 + 0 + o.val = o.val; omega

end Cert.KernelIdeal.Gen

end
-- ==== Proof.Atoms.lean ====
/- The five atoms of a residue as plain arithmetic, and which of them, and which rows of the weights, each pair takes. -/
module

public import proofs.«01_k».proof.Proof.Consts

@[expose] public section

noncomputable section

namespace Cert.Atoms

open Idealize.ShloMosaic

/-- CB of a residue from its atoms `P`: `b` is CA less the first atom and `c` the third atom less CA. -/
def beta (P : Fin 37 → Fin 3 → EReal) (k : Fin 3) : EReal :=
  let b := fun a => P 1 a - P 0 a
  let c := fun a => P 2 a - P 1 a
  FloatOps.ofBits (F := Ideal) .f32 0xBF152E13#32 *
      (if k.val = 0 then b 1 * c 2 - b 2 * c 1 else if k.val = 1 then b 2 * c 0 - b 0 * c 2 else b 0 * c 1 - b 1 * c 0)
    + FloatOps.ofBits (F := Ideal) .f32 0x3F116A4D#32 * b k
    - FloatOps.ofBits (F := Ideal) .f32 0x3F0A69A8#32 * c k
    + P 1 k

/-- Atom `t` of five: the first four stand in the positions, the last is CB. -/
def atom (P : Fin 37 → Fin 3 → EReal) (t : Fin 5) (k : Fin 3) : EReal :=
  if t.val < 4 then P ⟨t.val, by omega⟩ k else beta P k

/-- The query's atom of pair `p`; the pairs past the last take the first atom. -/
def pa (p : Fin 32) : Fin 5 := if h : p.val < 25 then ⟨p.val / 5, by omega⟩ else 0

/-- The key's atom of pair `p`. -/
def pb (p : Fin 32) : Fin 5 := ⟨p.val % 5, by omega⟩

/-- The row of the weights, a zero row after the last, that stands at place `n` of 544. -/
def wrow (n : Fin 544) : Fin 426 :=
  if h0 : n.val % 32 < 25 then (if h : n.val / 32 < 16 then ⟨16 * (n.val % 32) + n.val / 32, by omega⟩ else ⟨400 + n.val % 32, by omega⟩)
  else 425

end Cert.Atoms

end
-- ==== Proof.HostRead.lean ====
/- What the host operations before the first kernel compute over the extended reals, read at an index. -/
module

public import proofs.«01_k».proof.Proof.Gather
public import proofs.«01_k».proof.Proof.Atoms
public import proofs.«01_k».proof.Proof.TileRead

@[expose] public section

set_option maxRecDepth 16384

noncomputable section

namespace Cert.KernelIdeal.Gen

open Idealize.ShloMosaic Idealize.ShloMosaic.TcCoe Idealize.ShloMosaic.Tactic Idealize.SL Idealize.SL.Sem
open Cert.Atoms

/-- The atoms of residue `i`. -/
def res (x : Vec Ideal S1x384x37x3 .f32) (i : Fin 384) : Fin 37 → Fin 3 → EReal := fun t k => x (ix4 0 i t k)

variable (x : Vec Ideal S1x384x37x3 .f32)

/-- The positions lose a unit axis only. -/
theorem hpos_apply (i : Fin 384) (t : Fin 37) (k : Fin 3) : hpos x (ix3 i t k) = res x i t k := by
  unfold hpos res
  pointwise

/-- CA is the second atom. -/
theorem hca_apply (i : Fin 384) (k : Fin 3) : hca x (ix2 i k) = res x i 1 k := by
  have h := hpos_apply x
  unfold hca
  generalize hpos x = y at *
  pointwise [h]

/-- The first difference. -/
theorem hb_apply (i : Fin 384) (k : Fin 3) : hb x (ix2 i k) = res x i 1 k - res x i 0 k := by
  have h := hpos_apply x
  have h1 := hca_apply x
  unfold hb
  generalize hpos x = y at *
  generalize hca x = z at *
  pointwise [h, h1]

/-- The second difference. -/
theorem hc_apply (i : Fin 384) (k : Fin 3) : hc x (ix2 i k) = res x i 2 k - res x i 1 k := by
  have h := hpos_apply x
  have h1 := hca_apply x
  unfold hc
  generalize hpos x = y at *
  generalize hca x = z at *
  pointwise [h, h1]

/-- The first coordinate of a residue. -/
theorem hx_apply (u : FVec Ideal S384x3 .f32) (i : Fin 384) : hx u (ix1 i) = u (ix2 i 0) := by
  unfold hx
  pointwise

/-- The second coordinate of a residue. -/
theorem hy_apply (u : FVec Ideal S384x3 .f32) (i : Fin 384) : hy u (ix1 i) = u (ix2 i 1) := by
  unfold hy
  pointwise

/-- The third coordinate of a residue. -/
theorem hz_apply (u : FVec Ideal S384x3 .f32) (i : Fin 384) : hz u (ix1 i) = u (ix2 i 2) := by
  unfold hz
  pointwise

/-- The cross product. -/
theorem hcross_apply (u v : FVec Ideal S384x3 .f32) (i : Fin 384) (k : Fin 3) :
    hcross u v (ix2 i k) = if k.val = 0 then u (ix2 i 1) * v (ix2 i 2) - u (ix2 i 2) * v (ix2 i 1)
      else if k.val = 1 then u (ix2 i 2) * v (ix2 i 0) - u (ix2 i 0) * v (ix2 i 2)
      else u (ix2 i 0) * v (ix2 i 1) - u (ix2 i 1) * v (ix2 i 0) := by
  have a1 := hx_apply u
  have a2 := hy_apply u
  have a3 := hz_apply u
  have b1 := hx_apply v
  have b2 := hy_apply v
  have b3 := hz_apply v
  unfold hcross
  generalize hx u = ux at *
  generalize hy u = uy at *
  generalize hz u = uz at *
  generalize hx v = vx at *
  generalize hy v = vy at *
  generalize hz v = vz at *
  fin_cases k
  · pointwise [a1, a2, a3, b1, b2, b3]
  · pointwise [a1, a2, a3, b1, b2, b3]
  · pointwise [a1, a2, a3, b1, b2, b3]

/-- CB. -/
theorem hcb_apply (i : Fin 384) (k : Fin 3) : hcb x (ix2 i k) = beta (res x i) k := by
  have h := hcross_apply (hb x) (hc x) i k
  have h1 := hca_apply x
  have h2 := hb_apply x
  have h3 := hc_apply x
  simp only [h2, h3] at h
  unfold hcb beta
  generalize hcross (hb x) (hc x) = w at *
  generalize hb x = w1 at *
  generalize hc x = w2 at *
  generalize hca x = w3 at *
  pointwise [h, h1, h2, h3]

/-- The five atoms. -/
theorem hin_apply (i : Fin 384) (t : Fin 5) (k : Fin 3) : hin x (ix3 i t k) = atom (res x i) t k := by
  have h := hpos_apply x
  have h1 := hcb_apply x
  unfold hin
  generalize hpos x = y at *
  generalize hcb x = z at *
  fin_cases t
  · pointwise [h, h1]
    rfl
  · pointwise [h, h1]
    rfl
  · pointwise [h, h1]
    rfl
  · pointwise [h, h1]
    rfl
  · pointwise [h, h1]
    rfl

/-- A table as the gather takes it holds the table's words. -/
theorem hidx_apply (l : IVec S32 32) (p : Fin 32) : hidx l (ix2 p 0) = l (ix1 p) := by
  unfold hidx
  pointwise
  try rfl

/-- The first table holds each pair's first atom. -/
theorem lit0_eq : ∀ p : Fin 32, min (lit0 p).toInt.toNat 4 = (pa p).val := by decide +kernel

/-- The second table holds each pair's second atom. -/
theorem lit1_eq : ∀ p : Fin 32, min (lit1 p).toInt.toNat 4 = (pb p).val := by decide +kernel

/-- The table of rows holds each place's row. -/
theorem lit2_eq : ∀ n : Fin 544, min (lit2 n).toInt.toNat 425 = (wrow n).val := by decide +kernel

/-- The atoms that the first table picks. -/
theorem picked0 (i : Fin 384) (p : Fin 32) (k : Fin 3) :
    Host.gather gather_S384x5x3_S32x1_S384x32x3_02_1_n_n_1_1_38413 (hin x) (hidx fun i => lit0 (S32.rowMajor i)) (ix3 i p k)
      = atom (res x i) (pa p) k := by
  have e : S32.rowMajor (ix1 p) = p := Fin.ext (Shape.rowMajor_val_one _)
  have hl : (⟨min (hidx (fun i => lit0 (S32.rowMajor i)) (ix2 p 0)).toInt.toNat 4, by omega⟩ : Fin 5) = pa p := by
    refine Fin.ext ?_
    rw [← lit0_eq p]
    exact congrArg (fun b : BitVec 32 => min b.toInt.toNat 4) ((hidx_apply _ p).trans (congrArg lit0 e))
  rw [gather_atoms_apply, hl, hin_apply]

/-- The atoms that the second table picks. -/
theorem picked1 (i : Fin 384) (p : Fin 32) (k : Fin 3) :
    Host.gather gather_S384x5x3_S32x1_S384x32x3_02_1_n_n_1_1_38413 (hin x) (hidx fun i => lit1 (S32.rowMajor i)) (ix3 i p k)
      = atom (res x i) (pb p) k := by
  have e : S32.rowMajor (ix1 p) = p := Fin.ext (Shape.rowMajor_val_one _)
  have hl : (⟨min (hidx (fun i => lit1 (S32.rowMajor i)) (ix2 p 0)).toInt.toNat 4, by omega⟩ : Fin 5) = pb p := by
    refine Fin.ext ?_
    rw [← lit1_eq p]
    exact congrArg (fun b : BitVec 32 => min b.toInt.toNat 4) ((hidx_apply _ p).trans (congrArg lit1 e))
  rw [gather_atoms_apply, hl, hin_apply]

/-- The query coordinates: row `32 k + p` is coordinate `k` of the first atom of pair `p`. -/
theorem hq_apply (i : Fin 384) (k : Fin 3) (p : Fin 32) : hq x (ix3 i (crow k p) 0) = atom (res x i) (pa p) k := by
  have h := picked0 x
  unfold hq
  generalize Host.gather gather_S384x5x3_S32x1_S384x32x3_02_1_n_n_1_1_38413 (hin x) (hidx fun i => lit0 (S32.rowMajor i)) = y at *
  unfold crow
  pointwise [h]

/-- The key coordinates: row `32 k + p` is coordinate `k` of the second atom of pair `p`. -/
theorem hk_apply (i : Fin 384) (k : Fin 3) (p : Fin 32) : hk x (ix2 (crow k p) i) = atom (res x i) (pb p) k := by
  have h := picked1 x
  unfold hk
  generalize Host.gather gather_S384x5x3_S32x1_S384x32x3_02_1_n_n_1_1_38413 (hin x) (hidx fun i => lit1 (S32.rowMajor i)) = y at *
  unfold crow
  pointwise [h]

/-- The weights' rows with a zero row after the last. -/
def wpad (w : Vec Ideal S425x128 .f32) (r : Fin 426) (o : Fin 128) : EReal := if h : r.val < 425 then w (ix2 ⟨r.val, h⟩ o) else 0

/-- The weights and the zero row, one after another. -/
def wcat (w : Vec Ideal S425x128 .f32) : Vec Ideal S426x128 .f32 :=
  concatenate S426x128 0 [⟨S425x128, w⟩, ⟨S1x128, (broadcastInDim S1x128 ![] bcast_S_S1x128 (constant (F := Ideal) S_ .f32 0x00000000#32) : Vec Ideal S1x128 .f32)⟩]
    concatenates_S425x128_S1x128_S426x128_d0

/-- Its rows are the weights, then zeros. -/
theorem wcat_apply (w : Vec Ideal S425x128 .f32) (r : Fin 426) (o : Fin 128) : wcat w (ix2 r o) = wpad w r o := by
  unfold wpad wcat
  pointwise

/-- The table of rows as the gather takes it. -/
def ridx (l : IVec S544 32) : IVec S544x1 32 :=
  broadcastInDim S544x1 ![0] bcast_S544_S544x1_0
    (select (constantI S544 1 0#1) (addi l (broadcastInDim S544 ![] bcast_S_S544 (constantI S_ 32 426#32))) l)

/-- It holds the table's words. -/
theorem ridx_apply (l : IVec S544 32) (n : Fin 544) : ridx l (ix2 n 0) = l (ix1 n) := by
  unfold ridx
  pointwise
  try rfl

/-- The weights in the kernel's row order. -/
theorem hw_apply (w : Vec Ideal S425x128 .f32) (n : Fin 544) (o : Fin 128) : hw w (ix2 n o) = wpad w (wrow n) o := by
  have e : S544.rowMajor (ix1 n) = n := Fin.ext (Shape.rowMajor_val_one _)
  have hi := (ridx_apply (fun i => lit2 (S544.rowMajor i)) n).trans (congrArg lit2 e)
  have h0 : hw w (ix2 n o) = Host.gather gather_S426x128_S544x1_S544x128_1_0_n_n_0_1_1128 (wcat w)
      (ridx fun i => lit2 (S544.rowMajor i)) (ix2 n o) := rfl
  refine h0.trans ((gather_rows_apply _ _ n o).trans ((wcat_apply w _ o).trans ?_))
  refine congrArg (fun r => wpad w r o) (Fin.ext ?_)
  rw [← lit2_eq n]
  exact congrArg (fun b : BitVec 32 => min b.toInt.toNat 425) hi

end Cert.KernelIdeal.Gen

end
-- ==== Proof.RefPos.lean ====
/- The reference's five atoms, their masks and the distances, read at an index over the extended reals. -/
module

public import proofs.«01_k».proof.Proof.Gen.ReferenceIdeal.Read
public import proofs.«01_k».proof.Proof.Atoms
public import proofs.«01_k».proof.Proof.Loop1

@[expose] public section

set_option maxRecDepth 16384

noncomputable section

namespace Cert.ReferenceIdeal.Read

open Idealize.ShloMosaic Idealize.ShloMosaic.TcCoe Idealize.ShloMosaic.Tactic Idealize.SL Idealize.SL.Sem
open Cert.Atoms
open Cert.KernelIdeal.Gen (far feat)

/-- The atoms of residue `i`. -/
def res (x : Vec Ideal S1x384x37x3 .f32) (i : Fin 384) : Fin 37 → Fin 3 → EReal := fun t k => x (ix4 0 i t k)

variable (x : Vec Ideal S1x384x37x3 .f32)

/-- The first difference. -/
theorem v4_apply (i : Fin 384) (k : Fin 3) : val_main_v4 (F := Ideal) x (ix3 0 i k) = res x i 1 k - res x i 0 k := by
  unfold val_main_v4 val_main_v3 val_main_v2 val_main_v1 val_main_v0 res
  pointwise

/-- The second difference. -/
theorem v9_apply (i : Fin 384) (k : Fin 3) : val_main_v9 (F := Ideal) x (ix3 0 i k) = res x i 2 k - res x i 1 k := by
  unfold val_main_v9 val_main_v8 val_main_v7 val_main_v6 val_main_v5 res
  pointwise

/-- The cross product's first coordinate. -/
theorem v20_apply (i : Fin 384) : val_main_v20 (F := Ideal) x (ix2 0 i) =
    val_main_v4 (F := Ideal) x (ix3 0 i 1) * val_main_v9 (F := Ideal) x (ix3 0 i 2) - val_main_v4 (F := Ideal) x (ix3 0 i 2) * val_main_v9 (F := Ideal) x (ix3 0 i 1) := by
  unfold val_main_v20 val_main_v19 val_main_v18 val_main_v17 val_main_v16 val_main_v15 val_main_v14 val_main_v13 val_main_v12 val_main_v11 val_main_v10
  generalize val_main_v4 (F := Ideal) x = u
  generalize val_main_v9 (F := Ideal) x = v
  pointwise

/-- The cross product's second coordinate. -/
theorem v31_apply (i : Fin 384) : val_main_v31 (F := Ideal) x (ix2 0 i) =
    val_main_v4 (F := Ideal) x (ix3 0 i 2) * val_main_v9 (F := Ideal) x (ix3 0 i 0) - val_main_v4 (F := Ideal) x (ix3 0 i 0) * val_main_v9 (F := Ideal) x (ix3 0 i 2) := by
  unfold val_main_v31 val_main_v30 val_main_v29 val_main_v28 val_main_v27 val_main_v26 val_main_v25 val_main_v24 val_main_v23 val_main_v22 val_main_v21
  generalize val_main_v4 (F := Ideal) x = u
  generalize val_main_v9 (F := Ideal) x = v
  pointwise

/-- The cross product's third coordinate. -/
theorem v42_apply (i : Fin 384) : val_main_v42 (F := Ideal) x (ix2 0 i) =
    val_main_v4 (F := Ideal) x (ix3 0 i 0) * val_main_v9 (F := Ideal) x (ix3 0 i 1) - val_main_v4 (F := Ideal) x (ix3 0 i 1) * val_main_v9 (F := Ideal) x (ix3 0 i 0) := by
  unfold val_main_v42 val_main_v41 val_main_v40 val_main_v39 val_main_v38 val_main_v37 val_main_v36 val_main_v35 val_main_v34 val_main_v33 val_main_v32
  generalize val_main_v4 (F := Ideal) x = u
  generalize val_main_v9 (F := Ideal) x = v
  pointwise

/-- The cross product. -/
theorem v46_apply (i : Fin 384) (k : Fin 3) : val_main_v46 (F := Ideal) x (ix3 0 i k) =
    if k.val = 0 then val_main_v20 (F := Ideal) x (ix2 0 i) else if k.val = 1 then val_main_v31 (F := Ideal) x (ix2 0 i) else val_main_v42 (F := Ideal) x (ix2 0 i) := by
  unfold val_main_v46 val_main_v45 val_main_v44 val_main_v43
  generalize val_main_v20 (F := Ideal) x = u
  generalize val_main_v31 (F := Ideal) x = v
  generalize val_main_v42 (F := Ideal) x = w
  fin_cases k
  · pointwise
  · pointwise
  · pointwise

/-- CB. -/
theorem v57_apply (i : Fin 384) (k : Fin 3) : val_main_v57 (F := Ideal) x (ix3 0 i k) = beta (res x i) k := by
  have h := v46_apply x i k
  rw [v20_apply, v31_apply, v42_apply] at h
  have h4 := v4_apply x i
  have h9 := v9_apply x i
  simp only [h4, h9] at h
  unfold val_main_v57 val_main_v56 val_main_v55 val_main_v54 val_main_v53 val_main_v52 val_main_v51 val_main_v50 val_main_v49 val_main_v48 val_main_v47
    val_main_cst val_main_cst_0 val_main_cst_1 beta
  generalize val_main_v46 (F := Ideal) x = w at *
  generalize val_main_v4 (F := Ideal) x = w1 at *
  generalize val_main_v9 (F := Ideal) x = w2 at *
  pointwise [h, h4, h9]
  rfl

/-- The five atoms. -/
theorem v62_apply (i : Fin 384) (t : Fin 5) (k : Fin 3) : val_main_v62 (F := Ideal) x (ix4 0 i t k) = atom (res x i) t k := by
  have h := v57_apply x
  unfold val_main_v62 val_main_v61 val_main_v60
  generalize val_main_v57 (F := Ideal) x = z at *
  fin_cases t
  · pointwise [h]
    rfl
  · pointwise [h]
    rfl
  · pointwise [h]
    rfl
  · pointwise [h]
    rfl
  · pointwise [h]
    rfl

/-- CA's distances. -/
theorem v84_apply' (i j : Fin 384) : val_main_v84 (F := Ideal) x (ix3 0 i j) = far (res x i 1) (res x j 1) := by
  have h : ∀ i k, val_main_v62 (F := Ideal) x (ix4 0 i 1 k) = res x i 1 k := fun i k => v62_apply x i 1 k
  unfold val_main_v84 val_main_v83 val_main_v82 val_main_v81 val_main_v80 val_main_v79 val_main_v78 val_main_v77 val_main_v76 val_main_v75 val_main_v67 val_main_v66
    val_main_cst_2 val_main_cst_3 far
  generalize val_main_v62 (F := Ideal) x = z at *
  pointwise [h]
  rw [Fin.sum_univ_three]

/-- The squared differences of the atoms. -/
theorem v92_apply' (i j : Fin 384) (s t : Fin 5) (k : Fin 3) : val_main_v92 (F := Ideal) x (ix6 0 i j s t k) =
    (atom (res x i) s k - atom (res x j) t k) * (atom (res x i) s k - atom (res x j) t k) := by
  have h := v62_apply x
  unfold val_main_v92 val_main_v91 val_main_v90 val_main_v89 val_main_v88 val_main_v87
  generalize val_main_v62 (F := Ideal) x = z at *
  pointwise [h]

/-- The distances of the atoms. -/
theorem v96_apply' (i j : Fin 384) (s t : Fin 5) : val_main_v96 (F := Ideal) x (ix5 0 i j s t) = far (atom (res x i) s) (atom (res x j) t) := by
  have h : val_main_v93 (F := Ideal) x (ix5 0 i j s t) = ∑ k : Fin 3,
      (atom (res x i) s k - atom (res x j) t k) * (atom (res x i) s k - atom (res x j) t k) := by
    rw [val_main_v93_apply]
    have e : ∀ k, idx_main_v93 (ix5 0 i j s t) k = ix6 0 i j s t k := by
      intro k
      funext a
      fin_cases a <;> rfl
    simp only [e, v92_apply']
    have z : (val_main_cst_5 (F := Ideal)) (Shape.Idx.first Gen.h_S_) = 0 := Consts.zero_eq
    rw [z, zero_add]
  unfold val_main_v96 val_main_v95 val_main_v94 val_main_cst_6 far
  generalize val_main_v93 (F := Ideal) x = z at *
  pointwise [h]
  rw [Fin.sum_univ_three]

/-- The masks of the five atoms, with the first four on: all on. -/
theorem v65_apply' (m : Vec Ideal S1x384x37 .i1) (hm : ∀ (i : Fin 384) (t : Fin 4), m (ix3 0 i ⟨t.val, by omega⟩) = 1#1) (i : Fin 384) (t : Fin 5) :
    val_main_v65 (F := Ideal) m (ix3 0 i t) = 1#1 := by
  have h0 : ∀ i, m (ix3 0 i 0) = 1#1 := fun i => hm i 0
  have h1 : ∀ i, m (ix3 0 i 1) = 1#1 := fun i => hm i 1
  have h2 : ∀ i, m (ix3 0 i 2) = 1#1 := fun i => hm i 2
  have h3 : ∀ i, m (ix3 0 i 3) = 1#1 := fun i => hm i 3
  unfold val_main_v65 val_main_v64 val_main_v63 val_main_v59 val_main_v58 val_main_c
  fin_cases t
  · pointwise [h0, h1, h2, h3]
  · pointwise [h0, h1, h2, h3]
  · pointwise [h0, h1, h2, h3]
  · pointwise [h0, h1, h2, h3]
  · pointwise [h0, h1, h2, h3]
    have e : (fun a : Fin 3 => m (ix3 0 i ⟨a.val, by omega⟩)) = fun _ => 1#1 := by
      funext a
      exact hm i ⟨a.val, by omega⟩
    rw [e]
    decide +kernel

/-- With the masks on the nearness that the reference sorts is CA's distance, negated. -/
theorem v86_apply' (m : Vec Ideal S1x384x37 .i1) (hm : ∀ (i : Fin 384) (t : Fin 4), m (ix3 0 i ⟨t.val, by omega⟩) = 1#1) (i j : Fin 384) :
    val_main_v86 (F := Ideal) x m (ix3 0 i j) = -far (res x i 1) (res x j 1) := by
  have h := v84_apply' x
  have h1 : ∀ i, val_main_v65 (F := Ideal) m (ix3 0 i 1) = 1#1 := fun i => v65_apply' m hm i 1
  unfold val_main_v86 val_main_v85 val_main_v74 val_main_v73 val_main_v72 val_main_v71 val_main_v70 val_main_v69 val_main_v68
  generalize val_main_v84 (F := Ideal) x = u at *
  generalize val_main_v65 (F := Ideal) m = v at *
  pointwise [h, h1]
  rfl

/-- With the masks on the pairs' distances, twenty-five to a pair of residues. -/
theorem v103_apply' (m : Vec Ideal S1x384x37 .i1) (hm : ∀ (i : Fin 384) (t : Fin 4), m (ix3 0 i ⟨t.val, by omega⟩) = 1#1) (i j : Fin 384) (p : Fin 25) :
    val_main_v103 (F := Ideal) x m (ix4 0 i j p) =
      far (atom (res x i) ⟨p.val / 5, by omega⟩) (atom (res x j) ⟨p.val % 5, by omega⟩) := by
  have h := v96_apply' x
  have h1 := v65_apply' m hm
  unfold val_main_v103 val_main_v102 val_main_v101 val_main_v100 val_main_v99 val_main_v98 val_main_v97
  generalize val_main_v96 (F := Ideal) x = u at *
  generalize val_main_v65 (F := Ideal) m = v at *
  pointwise [h, h1]
  rfl

/-- The radial bumps' centres. -/
theorem v104_apply' (r : Fin 16) : val_main_v104 (F := Ideal) (ix1 r) = Consts.mu r.val := by
  unfold val_main_v104 val_main_call2_v16 val_main_call2_v15 val_main_call2_v14 val_main_call2_v13 val_main_call2_v12 val_main_call2_v11 val_main_call2_v10 val_main_call2_v9 val_main_call2_v8 val_main_call2_v7 val_main_call2_v6 val_main_call2_v5 val_main_call2_v4 val_main_call2_v1 val_main_call2_v0 val_main_call2_cst_1 val_main_call2_cst_0 val_main_cst_8 val_main_cst_9
  pointwise
  have h2 : ∀ j, id (constant (F := Ideal) S_ FTy.f32 1073741824#32) j = ((2 : ℝ) : EReal) := fun _ => Consts.two_eq
  have h22 : ∀ j, id (constant (F := Ideal) S_ FTy.f32 1102053376#32) j = ((22 : ℝ) : EReal) := fun _ => Consts.twentytwo_eq
  have h15 : Ideal.ofBits FTy.f32 1097859072#32 = ((15 : ℝ) : EReal) := Consts.fifteen_eq
  have h1 : (1 : EReal) = ((1 : ℝ) : EReal) := rfl
  by_cases hr : r.val < 15
  · rw [dif_pos hr, h2, h22, h15, Cert.KernelIdeal.Gen.sitofp_small r.val (by omega), Ideal.div_coe (by norm_num), h1]
    simp only [← EReal.coe_mul, ← EReal.coe_sub, ← EReal.coe_add, Consts.mu]
    congr 1
    ring
  · rw [dif_neg hr, h22, Consts.mu]
    have e : (r.val : ℝ) = 15 := by
      have : r.val = 15 := by omega
      rw [this]; norm_num
    rw [e]
    norm_num

/-- The radial bumps of a distance. -/
theorem v113_apply' (m : Vec Ideal S1x384x37 .i1) (i j : Fin 384) (k : Fin 400) :
    val_main_v113 (F := Ideal) x m (ix4 0 i j k) =
      feat (k.val % 16) (val_main_v103 (F := Ideal) x m (ix4 0 i j ⟨k.val / 16, by omega⟩)) := by
  have h := v104_apply'
  unfold val_main_v113 val_main_v112 val_main_v111 val_main_v110 val_main_v109 val_main_v108 val_main_v107 val_main_v106 val_main_v105 feat
  generalize val_main_v103 (F := Ideal) x m = u at *
  generalize val_main_v104 (F := Ideal) = v at *
  pointwise [h]
  rw [if_pos (Nat.mod_lt _ (by decide))]

/-- One over one more than a distance. -/
theorem v117_apply' (m : Vec Ideal S1x384x37 .i1) (i j : Fin 384) (p : Fin 25) :
    val_main_v117 (F := Ideal) x m (ix4 0 i j p) = feat 16 (val_main_v103 (F := Ideal) x m (ix4 0 i j p)) := by
  unfold val_main_v117 val_main_v116 val_main_v115 val_main_v114 val_main_cst_10 val_main_cst_11 feat
  generalize val_main_v103 (F := Ideal) x m = u at *
  pointwise

end Cert.ReferenceIdeal.Read

end
-- ==== Proof.RefValue.lean ====
/- The reference's two results as plain arithmetic of the atoms, with the masks on. -/
module

public import proofs.«01_k».proof.Proof.RefPos
public import proofs.«01_k».proof.Proof.Rounds

@[expose] public section

set_option maxRecDepth 16384

noncomputable section

namespace Cert.Atoms

open Idealize.ShloMosaic
open Cert.KernelIdeal.Gen (far feat)

/-- The place `t` of residue `i`'s list of nearest residues: the residue that a stable sort by CA's distance puts there. -/
def near (P : Fin 384 → Fin 37 → Fin 3 → EReal) (i : Fin 384) (t : Fin 48) : BitVec 32 :=
  BitVec.ofNat 32 (Rounds.order (fun b => far (P i 1) (P b 1)) ⟨t.val, by omega⟩).val

/-- Feature `k` of 425 of a pair of residues: sixteen radial bumps of each of twenty-five distances, then one over one more than each. -/
def feature (P Q : Fin 37 → Fin 3 → EReal) (k : Fin 425) : EReal :=
  if k.val < 400 then feat (k.val % 16) (far (atom P ⟨k.val / 16 / 5 % 5, by omega⟩) (atom Q ⟨k.val / 16 % 5, by omega⟩))
  else feat 16 (far (atom P ⟨(k.val - 400) / 5, by omega⟩) (atom Q ⟨(k.val - 400) % 5, by omega⟩))

end Cert.Atoms

namespace Cert.ReferenceIdeal.Read

open Idealize.ShloMosaic Idealize.ShloMosaic.TcCoe Idealize.ShloMosaic.Tactic Idealize.SL Idealize.SL.Sem
open Cert.Atoms
open Cert.KernelIdeal.Gen (far feat)

variable (x : Vec Ideal S1x384x37x3 .f32) (m : Vec Ideal S1x384x37 .i1)

/-- The features. -/
theorem v118_apply' (hm : ∀ (i : Fin 384) (t : Fin 4), m (ix3 0 i ⟨t.val, by omega⟩) = 1#1) (i j : Fin 384) (k : Fin 425) :
    val_main_v118 (F := Ideal) x m (ix4 0 i j k) = feature (res x i) (res x j) k := by
  have h1 := v113_apply' x m
  have h2 := v117_apply' x m
  have h3 := v103_apply' x m hm
  simp only [h3] at h1 h2
  unfold val_main_v118 feature
  generalize val_main_v113 (F := Ideal) x m = u at *
  generalize val_main_v117 (F := Ideal) x m = v at *
  pointwise [h1, h2]
  by_cases hk : k.val < 400
  · rw [dif_pos hk, if_pos hk]
    congr 4
    omega
  · rw [dif_neg hk, if_neg hk]

/-- The pair features. -/
theorem v119_apply' (hm : ∀ (i : Fin 384) (t : Fin 4), m (ix3 0 i ⟨t.val, by omega⟩) = 1#1) (w : Vec Ideal S425x128 .f32)
    (i j : Fin 384) (o : Fin 128) :
    val_main_v119 (F := Ideal) x m w (ix4 0 i j o) = ∑ k : Fin 425, feature (res x i) (res x j) k * w (ix2 k o) := by
  rw [val_main_v119_apply]
  refine Finset.sum_congr rfl fun k _ => ?_
  have e1 : lidx_main_v119 (ix4 0 i j o) k = ix4 0 i j k := by
    funext a
    fin_cases a <;> rfl
  have e2 : ridx_main_v119 (ix4 0 i j o) k = ix2 k o := by
    funext a
    fin_cases a <;> rfl
  rw [e1, e2, v118_apply' x m hm]

/-- The greatest first of a row, as positions. -/
theorem topK_apply (u : S1x384x384.Idx → EReal) (i : Fin 384) (t : Fin 48) :
    (Host.topK S1x384x48 2 (FloatOps.cmpfTotal (F := Ideal) (φ := .f32) .gt) u Gen.sliceFits_S1x384x384_S1x384x48).2 (ix3 0 i t) =
      BitVec.ofNat 32 (sortedFrom (fun a b : Fin 384 => decide (u (ix3 0 i b) < u (ix3 0 i a))) ⟨t.val, by omega⟩).val := by
  have e : ∀ (s : Fin 384) (a : Fin 384), Shape.Idx.along (s := S1x384x384) (ix3 0 i s) (⟨2, Nat.lt_succ_self 2⟩ : Fin S1x384x384.rank) a = ix3 0 i a := by
    intro s a
    funext b
    fin_cases b <;> rfl
  unfold Host.topK Host.sort2
  dsimp only
  rw [extractStridedSlice_apply (fun _ => 0) _ _ (ix3 0 i t) (ix3 0 i ⟨t.val, by omega⟩) (fun a => match a with
    | ⟨0, _⟩ => by show 0 = 0 + 0; omega
    | ⟨1, _⟩ => by show i.val = 0 + i.val; omega
    | ⟨2, _⟩ => by show t.val = 0 + t.val; omega)]
  rw [dif_pos (by decide)]
  dsimp only
  have hs : (fun a b : Fin 384 => (FloatOps.cmpfTotal (F := Ideal) (φ := .f32) .gt
      (u (Shape.Idx.along (s := S1x384x384) (ix3 0 i ⟨t.val, by omega⟩) (⟨2, Nat.lt_succ_self 2⟩ : Fin S1x384x384.rank) a))
      (u (Shape.Idx.along (s := S1x384x384) (ix3 0 i ⟨t.val, by omega⟩) (⟨2, Nat.lt_succ_self 2⟩ : Fin S1x384x384.rank) b)) == 1#1))
      = fun a b : Fin 384 => decide (u (ix3 0 i b) < u (ix3 0 i a)) := by
    funext a b
    rw [e, e]
    show (BitVec.ofBool (decide (u (ix3 0 i b) < u (ix3 0 i a))) == 1#1) = _
    by_cases h : u (ix3 0 i b) < u (ix3 0 i a) <;> simp [h]
  rw [dif_pos (by decide)]
  have hi : ∀ a : Fin 384, iotaInDim S1x384x384 32 ⟨2, by decide⟩ (Shape.Idx.along (s := S1x384x384) (ix3 0 i ⟨t.val, by omega⟩)
      (⟨2, Nat.lt_succ_self 2⟩ : Fin S1x384x384.rank) a) = BitVec.ofNat 32 a.val := by
    intro a
    rw [e]
    rfl
  refine (hi _).trans ?_
  refine congrArg (fun a : Fin 384 => BitVec.ofNat 32 a.val) ?_
  refine congrArg (fun f : Fin 384 → Fin 384 → Bool => sortedFrom f ⟨t.val, by omega⟩) ?_
  exact hs

/-- The nearest residues. -/
theorem indices_apply' (hm : ∀ (i : Fin 384) (t : Fin 4), m (ix3 0 i ⟨t.val, by omega⟩) = 1#1) (i : Fin 384) (t : Fin 48) :
    val_main_indices (F := Ideal) x m (ix3 0 i t) = near (res x) i t := by
  have hs : (fun a b : Fin 384 => decide (val_main_v86 (F := Ideal) x m (ix3 0 i b) < val_main_v86 (F := Ideal) x m (ix3 0 i a)))
      = fun a b => decide (far (res x i 1) (res x a 1) < far (res x i 1) (res x b 1)) := by
    funext a b
    rw [v86_apply' x m hm, v86_apply' x m hm]
    exact decide_eq_decide.mpr EReal.neg_lt_neg_iff
  refine (topK_apply (val_main_v86 (F := Ideal) x m) i t).trans ?_
  rw [hs]
  unfold near Rounds.order
  rfl

end Cert.ReferenceIdeal.Read

end
-- ==== Proof.KernelValue.lean ====
/- The kernel's two results as the same plain arithmetic of the atoms. -/
module

public import proofs.«01_k».proof.Proof.KernelRun
public import proofs.«01_k».proof.Proof.Region0
public import proofs.«01_k».proof.Proof.Block1
public import proofs.«01_k».proof.Proof.HostRead
public import proofs.«01_k».proof.Proof.RefValue

@[expose] public section

set_option maxRecDepth 16384

noncomputable section

namespace Cert.Atoms

open Idealize.ShloMosaic
open Cert.KernelIdeal.Gen (far feat)

/-- The place among 544 of the features' row `k` of 425. -/
def place (k : Fin 425) : Fin 544 :=
  if h : k.val < 400 then ⟨32 * (k.val % 16) + k.val / 16, by omega⟩ else ⟨512 + (k.val - 400), by omega⟩

/-- The place of row `k` takes row `k` of the weights. -/
theorem wrow_place (k : Fin 425) : (wrow (place k)).val = k.val := by
  unfold wrow place
  by_cases h : k.val < 400
  · simp only [dif_pos h]
    have h1 : (32 * (k.val % 16) + k.val / 16) % 32 = k.val / 16 := by
      rw [Nat.mul_add_mod]; exact Nat.mod_eq_of_lt (by omega)
    have h2 : (32 * (k.val % 16) + k.val / 16) / 32 = k.val % 16 := by
      rw [Nat.mul_add_div (by decide)]; omega
    rw [dif_pos (by rw [h1]; omega), dif_pos (by rw [h2]; omega)]
    show 16 * ((32 * (k.val % 16) + k.val / 16) % 32) + (32 * (k.val % 16) + k.val / 16) / 32 = k.val
    rw [h1, h2]
    omega
  · simp only [dif_neg h]
    rw [dif_pos (by omega), dif_neg (by omega)]
    show 400 + (512 + (k.val - 400)) % 32 = k.val
    omega

/-- A place that holds no row of the features holds the zero row of the weights. -/
theorem wrow_other (n : Fin 544) (h : ∀ k, place k ≠ n) : wrow n = 425 := by
  by_cases h0 : n.val % 32 < 25
  · exfalso
    by_cases h1 : n.val / 32 < 16
    · refine h ⟨16 * (n.val % 32) + n.val / 32, by omega⟩ (Fin.ext ?_)
      unfold place
      rw [dif_pos (by show 16 * (n.val % 32) + n.val / 32 < 400; omega)]
      show 32 * ((16 * (n.val % 32) + n.val / 32) % 16) + (16 * (n.val % 32) + n.val / 32) / 16 = n.val
      omega
    · refine h ⟨400 + n.val % 32, by omega⟩ (Fin.ext ?_)
      unfold place
      rw [dif_neg (by show ¬(400 + n.val % 32 < 400); omega)]
      show 512 + (400 + n.val % 32 - 400) = n.val
      omega
  · unfold wrow
    rw [dif_neg h0]

/-- The kernel's sum over 544 places is the sum over the 425 features. -/
theorem sum_places (P Q : Fin 37 → Fin 3 → EReal) (W : Fin 426 → EReal) (hW : W 425 = 0) :
    ∑ n : Fin 544, feat (n.val / 32) (far (atom P (pa ⟨n.val % 32, by omega⟩)) (atom Q (pb ⟨n.val % 32, by omega⟩))) * W (wrow n) =
      ∑ k : Fin 425, feature P Q k * W ⟨k.val, by omega⟩ := by
  symm
  refine Finset.sum_of_injOn place ?_ (fun _ _ => Finset.mem_coe.mpr (Finset.mem_univ _)) ?_ ?_
  · intro a _ b _ hab
    have := congrArg (fun n => (wrow n).val) hab
    simp only [wrow_place] at this
    exact Fin.ext this
  · intro n _ hn
    rw [wrow_other n fun k hk => hn ⟨k, Finset.mem_coe.mpr (Finset.mem_univ _), hk⟩, hW, mul_zero]
  · intro k _
    have hw : wrow (place k) = ⟨k.val, by omega⟩ := Fin.ext (wrow_place k)
    rw [hw]
    congr 1
    unfold feature
    by_cases h : k.val < 400
    · have hp : (place k).val = 32 * (k.val % 16) + k.val / 16 := by unfold place; rw [dif_pos h]
      have h1 : (place k).val / 32 = k.val % 16 := by omega
      have h2 : (⟨(place k).val % 32, by omega⟩ : Fin 32) = ⟨k.val / 16, by omega⟩ := Fin.ext (by show (place k).val % 32 = k.val / 16; omega)
      rw [if_pos h, h1, h2]
      have ha : pa ⟨k.val / 16, by omega⟩ = ⟨k.val / 16 / 5 % 5, by omega⟩ := by
        unfold pa
        rw [dif_pos (by show k.val / 16 < 25; omega)]
        exact Fin.ext (by show k.val / 16 / 5 = k.val / 16 / 5 % 5; omega)
      rw [ha]
      rfl
    · have hp : (place k).val = 512 + (k.val - 400) := by unfold place; rw [dif_neg h]
      have h1 : (place k).val / 32 = 16 := by omega
      have h2 : (⟨(place k).val % 32, by omega⟩ : Fin 32) = ⟨k.val - 400, by omega⟩ := Fin.ext (by show (place k).val % 32 = k.val - 400; omega)
      rw [if_neg h, h1, h2]
      have ha : pa ⟨k.val - 400, by omega⟩ = ⟨(k.val - 400) / 5, by omega⟩ := by
        unfold pa
        rw [dif_pos (by show k.val - 400 < 25; omega)]
      rw [ha]
      rfl

/-- A distance of points with finite coordinates is below infinity. -/
theorem far_lt_top (q k : Fin 3 → EReal) (hq : ∀ a, max (q a) (-(q a)) < ⊤) (hk : ∀ a, max (k a) (-(k a)) < ⊤) : far q k < ⊤ := by
  have real : ∀ v : EReal, max v (-v) < ⊤ → ∃ r : ℝ, v = r := by
    intro v h
    induction v with
    | bot => simp at h
    | top => simp at h
    | coe r => exact ⟨r, rfl⟩
  obtain ⟨q0, h0⟩ := real _ (hq 0)
  obtain ⟨q1, h1⟩ := real _ (hq 1)
  obtain ⟨q2, h2⟩ := real _ (hq 2)
  obtain ⟨k0, g0⟩ := real _ (hk 0)
  obtain ⟨k1, g1⟩ := real _ (hk 1)
  obtain ⟨k2, g2⟩ := real _ (hk 2)
  obtain ⟨e, he⟩ := Consts.eps_eq
  unfold far
  rw [h0, h1, h2, g0, g1, g2, he]
  simp only [← EReal.coe_sub, ← EReal.coe_mul, ← EReal.coe_add]
  rw [Ideal.sqrt_coe]
  split
  · exact bot_lt_top
  · exact EReal.coe_lt_top _

end Cert.Atoms

namespace Cert.KernelIdeal.Gen

open Idealize.ShloMosaic Idealize.ShloMosaic.TcCoe Idealize.ShloMosaic.Tactic Idealize.SL Idealize.SL.Sem
open Cert.Atoms

variable (x : Vec Ideal S1x384x37x3 .f32)

/-- The features region's array. -/
theorem table_apply (w : Vec Ideal S425x128 .f32) (i j : Fin 384) (o : Fin 128) :
    table (hq x) (hk x) (hw w) (ix3 i j o) = ∑ k : Fin 425, feature (res x i) (res x j) k * w (ix2 k o) := by
  unfold table
  have hs := sum_places (res x i) (res x j) (fun r => wpad w r o) (by unfold wpad; exact dif_neg (by decide))
  have hk : ∀ k : Fin 425, wpad w ⟨k.val, by omega⟩ o = w (ix2 k o) := fun k => by unfold wpad; exact dif_pos k.isLt
  simp only [hk] at hs
  rw [← hs]
  refine Finset.sum_congr rfl fun n _ => ?_
  show feat (n.val / 32) (far (fun a => hq x (ix3 i (crow a ⟨n.val % 32, _⟩) 0)) (fun a => Gen.hk x (ix2 (crow a ⟨n.val % 32, _⟩) j))) * hw w (ix2 n o) = _
  simp only [hq_apply, hk_apply, hw_apply]

/-- CA transposed. -/
theorem hcaT_apply (k : Fin 3) (i : Fin 384) :
    (transpose S3x384 [1, 0] (hca x) transposes_S384x3_S3x384_1_0 : Vec Ideal S3x384 .f32) (ix2 k i) = res x i 1 k := by
  have h := hca_apply x
  generalize hca x = z at *
  pointwise [h]

/-- The neighbours region's array. -/
theorem nearest_apply (i : Fin 384) (t : Fin 48) :
    nearest (hca x) (transpose S3x384 [1, 0] (hca x) transposes_S384x3_S3x384_1_0 : Vec Ideal S3x384 .f32) (ix2 i t) = near (res x) i t := by
  unfold nearest near
  have h : (fun b => far (fun a => hca x (ix2 ((ix2 i t : S384x48.Idx) 0) a))
      (fun a => (transpose S3x384 [1, 0] (hca x) transposes_S384x3_S3x384_1_0 : Vec Ideal S3x384 .f32) (ix2 a b)))
      = fun b => far (res x i 1) (res x b 1) := by
    funext b
    refine congrArg₂ far (funext fun a => hca_apply x i a) (funext fun a => hcaT_apply x a b)
  rw [h]
  rfl

end Cert.KernelIdeal.Gen

end
-- ==== Proof.Pair.lean ====
/- The kernel's results are the reference's, over the extended reals. -/
module

public import proofs.«01_k».proof.Defs
public import proofs.«01_k».proof.Proof.KernelValue
public import proofs.«01_k».proof.Proof.Gen.ReferenceIdeal.Run

@[expose] public section

set_option maxRecDepth 16384

noncomputable section

namespace Cert.Proof

open Idealize.ShloMosaic Idealize.ShloMosaic.TcCoe Idealize.ShloMosaic.Tactic Idealize.SL Idealize.SL.Sem
open Cert.Atoms
open Cert.KernelIdeal.Gen (far)

/-- The side conditions of the precondition's operations. -/
theorem pre_facts : Cert.Pre_masks_on_and_ca_finite.Facts where
  slices_S1x384x37_S1x384x4_0_0_0 := by decide
  slices_S1x384x37x3_S1x384x1x3_0_0_1_0 := by decide
  shapeCasts_S1x384x1x3_S1x384x3 := by decide
  bcast_S_S1x384x3 := by decide

section
open Cert.Pre_masks_on_and_ca_finite
variable [Cert.Pre_masks_on_and_ca_finite.Facts]
variable (x : FVec Ideal S1x384x37x3 .f32) (m : IVec S1x384x37 1) (a2 : IVec S1x384 1) (a3 a4 : IVec S1x384 32) (w : FVec Ideal S425x128 .f32)

/-- The precondition's first part: the masks of the first four atoms are on. -/
theorem pre_masks (h : (Cert.Pre_masks_on_and_ca_finite.fn (F := Ideal) x m a2 a3 a4 w).1 = fun _ => 1#1) (i : Fin 384) (t : Fin 4) :
    m (ix3 0 i ⟨t.val, by omega⟩) = 1#1 := by
  have e : (Cert.Pre_masks_on_and_ca_finite.fn (F := Ideal) x m a2 a3 a4 w).1 (ix3 0 i t) = m (ix3 0 i ⟨t.val, by omega⟩) := by
    unfold Cert.Pre_masks_on_and_ca_finite.fn
    dsimp only
    pointwise
  rw [← e, h]

/-- Its second part: CA's coordinates are finite. -/
theorem pre_finite (h : (Cert.Pre_masks_on_and_ca_finite.fn (F := Ideal) x m a2 a3 a4 w).2 = fun _ => 1#1) (i : Fin 384) (k : Fin 3) :
    max (x (ix4 0 i 1 k)) (-(x (ix4 0 i 1 k))) < ⊤ := by
  have e : (Cert.Pre_masks_on_and_ca_finite.fn (F := Ideal) x m a2 a3 a4 w).2 (ix3 0 i k)
      = BitVec.ofBool (decide (max (x (ix4 0 i 1 k)) (-(x (ix4 0 i 1 k))) < FloatOps.ofBits (F := Ideal) .f32 0x7F800000#32)) := by
    unfold Cert.Pre_masks_on_and_ca_finite.fn
    dsimp only
    pointwise
    rfl
  rw [h, Consts.inf_eq] at e
  by_contra hn
  rw [decide_eq_false hn] at e
  exact absurd (show (1#1 : BitVec 1) = 0#1 from e) (by decide)
end

section
open Cert.KernelIdeal Cert.KernelIdeal.Gen
variable (m : (ℓ : Loc nD τ sig) → Buf (Elt Ideal) ℓ) (ρ : Dev nD → PrngReg) (c : Dev nD)

/-- The kernel's first result: each residue's nearest, in order, wherever CA's coordinates are finite. -/
theorem kernel_near (hf : ∀ (i : Fin 384) (k : Fin 3),
      max (res (m ((c : Thread nD τ).loc main_arg0)) i 1 k) (-(res (m ((c : Thread nD τ).loc main_arg0)) i 1 k)) < ⊤)
    (i : Fin 384) (t : Fin 48) :
    W5 m ρ c (Proc.devRef .tc main_v0_0) (ix3 0 i t) = near (res (m ((c : Thread nD τ).loc main_arg0))) i t := by
  have e0 : V3 m ρ c main_call0_v50 = hca (m ((c : Thread nD τ).loc main_arg0)) := w3_v50 m ρ c
  have e1 : V3 m ρ c main_call0_v51 = (transpose S3x384 [1, 0] (hca (m ((c : Thread nD τ).loc main_arg0))) transposes_S384x3_S3x384_1_0 : Vec Ideal S3x384 .f32) :=
    w3_v51 m ρ c
  have hr := region1_out (V3 m ρ) c (by
    intro a b
    rw [e0, e1]
    refine far_lt_top _ _ (fun k => ?_) (fun k => ?_)
    · rw [hca_apply]; exact hf a k
    · rw [hcaT_apply]; exact hf b k)
  rw [e0, e1] at hr
  have hn := nearest_apply (m ((c : Thread nD τ).loc main_arg0)) i t
  rw [w5_v0_0, hr]
  generalize nearest (hca (m ((c : Thread nD τ).loc main_arg0))) (transpose S3x384 [1, 0] (hca (m ((c : Thread nD τ).loc main_arg0))) transposes_S384x3_S3x384_1_0 : Vec Ideal S3x384 .f32) = y at *
  pointwise [hn]

/-- The kernel's second result: each pair's features times the weights. -/
theorem kernel_features (i j : Fin 384) (o : Fin 128) :
    W5 m ρ c (Proc.devRef .tc main_v0_1) (ix4 0 i j o) = ∑ k : Fin 425, feature (res (m ((c : Thread nD τ).loc main_arg0)) i)
      (res (m ((c : Thread nD τ).loc main_arg0)) j) k * (m ((c : Thread nD τ).loc main_arg5) : Vec Ideal S425x128 .f32) (ix2 k o) := by
  have e0 : V1 m ρ c main_call0_v32 = hq (m ((c : Thread nD τ).loc main_arg0)) := after_v32 _
  have e1 : V1 m ρ c main_call0_v39 = hk (m ((c : Thread nD τ).loc main_arg0)) := after_v39 _
  have e2 : V1 m ρ c main_call0_v47 = hw (m ((c : Thread nD τ).loc main_arg5)) := after_v47 _
  have hr := region0_out (V1 m ρ) c
  rw [e0, e1, e2] at hr
  have hn := table_apply (m ((c : Thread nD τ).loc main_arg0)) (m ((c : Thread nD τ).loc main_arg5)) i j o
  rw [w5_v0_1, hr]
  generalize table (hq (m ((c : Thread nD τ).loc main_arg0))) (hk (m ((c : Thread nD τ).loc main_arg0))) (hw (m ((c : Thread nD τ).loc main_arg5))) = y at *
  rw [← hn]
  pointwise
end

/-- From equal arguments under the precondition the kernel and the reference end with equal results, their arguments unchanged. -/
theorem pair : Cert.algebraic_KernelIdeal_ReferenceIdeal_pre_masks_on_and_ca_finite (hKernelIdeal := Cert.KernelIdeal.Gen.facts)
    (hReferenceIdeal := Cert.ReferenceIdeal.Gen.facts) (hPre_masks_on_and_ca_finite := pre_facts) := by
  letI := pre_facts
  intro m g m' g' hp hm
  refine ⟨fun c => Cert.KernelIdeal.Gen.W5 m g c (Proc.devRef .tc Cert.KernelIdeal.main_v0_0),
    fun c => Cert.KernelIdeal.Gen.W5 m g c (Proc.devRef .tc Cert.KernelIdeal.main_v0_1), ?_, ?_⟩
  · refine (θ_run Cert.KernelIdeal.defs _ _).mono (fun r h c => ?_) (Cert.KernelIdeal.Gen.run_all m g)
    exact ⟨h c _ (Cert.KernelIdeal.Gen.mem_uc Cert.KernelIdeal.main_v0_0 (by decide)), h c _ (Cert.KernelIdeal.Gen.mem_uc Cert.KernelIdeal.main_v0_1 (by decide)),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c),
      (h c _ (Cert.KernelIdeal.Gen.mem_uc Cert.KernelIdeal.main_arg4 (by decide))).trans (Cert.KernelIdeal.Gen.W5_main_arg4 m g c),
      (h c _ (Cert.KernelIdeal.Gen.mem_uc Cert.KernelIdeal.main_arg5 (by decide))).trans (Cert.KernelIdeal.Gen.W5_main_arg5 m g c)⟩
  · refine (θ_run Cert.ReferenceIdeal.defs _ _).mono (fun r h c => ?_) (Cert.ReferenceIdeal.Value.run (F := Ideal) m' g')
    obtain ⟨a0, a1, -, -, -, a5⟩ := hm c
    have hmask := pre_masks _ _ _ _ _ _ (hp c).1
    have hfin := pre_finite _ _ _ _ _ _ (hp c).2
    refine ⟨(h c).1.trans ?_, (h c).2.1.trans ?_, (h c).2.2⟩
    · refine (Cert.ReferenceIdeal.Read.val_main_indices_eq _).trans ?_
      refine (congrArg₂ (Cert.ReferenceIdeal.Read.val_main_indices (F := Ideal)) a0 a1).trans ?_
      funext y
      obtain ⟨z, i, t, rfl⟩ : ∃ (z : Fin 1) (i : Fin 384) (t : Fin 48), y = ix3 z i t := ⟨y 0, y 1, y 2, eq_ix3 y⟩
      obtain rfl : z = 0 := Subsingleton.elim _ _
      exact (Cert.ReferenceIdeal.Read.indices_apply' _ _ hmask i t).trans (kernel_near m g c hfin i t).symm
    · refine (Cert.ReferenceIdeal.Read.val_main_v119_eq _).trans ?_
      refine (congrArg₂ (fun f w => f w) (congrArg₂ (Cert.ReferenceIdeal.Read.val_main_v119 (F := Ideal)) a0 a1) a5).trans ?_
      funext y
      obtain ⟨z, i, j, o, rfl⟩ : ∃ (z : Fin 1) (i : Fin 384) (j : Fin 384) (o : Fin 128), y = ix4 z i j o := ⟨y 0, y 1, y 2, y 3, eq_ix4 y⟩
      obtain rfl : z = 0 := Subsingleton.elim _ _
      exact (Cert.ReferenceIdeal.Read.v119_apply' _ _ hmask _ i j o).trans (kernel_features m g c i j o).symm

end Cert.Proof

end
-- ==== Proof.lean ====
module

public import proofs.«01_k».proof.Proof.Frames
public import proofs.«01_k».proof.Proof.Pair

@[expose] public section

noncomputable section

namespace Cert.Proof

theorem claim : Cert.Claim :=
  ⟨Cert.Kernel.Gen.facts, Cert.KernelIdeal.Gen.facts, Cert.ReferenceIdeal.Gen.facts, pre_facts, frame_p, frame_pi,
    fun m ρ _ => frame_pi m ρ trivial, frame_ri, fun m ρ _ => frame_ri m ρ trivial, preserves, pair⟩

end Cert.Proof

end
